-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_product_rules [hPre_product_rules : Cert.Pre_product_rules.Facts] (m : (ℓ : Loc Cert.KernelIdeal.nD Cert.KernelIdeal.τ Cert.KernelIdeal.sig) → Buf (Elt Ideal) ℓ) : Prop :=
  ∀ c : Dev Cert.KernelIdeal.nD,
    (Cert.Pre_product_rules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_product_rules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_product_rules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_product_rules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_product_rules [hPre_product_rules : Cert.Pre_product_rules.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_product_rules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_product_rules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_product_rules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_product_rules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_product_rules [hKernelIdeal : Cert.KernelIdeal.Facts] [hPre_product_rules : Cert.Pre_product_rules.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_product_rules m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_product_rules [hReferenceIdeal : Cert.ReferenceIdeal.Facts] [hPre_product_rules : Cert.Pre_product_rules.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_product_rules m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_product_rules [hKernelIdeal : Cert.KernelIdeal.Facts] [hReferenceIdeal : Cert.ReferenceIdeal.Facts] [hPre_product_rules : Cert.Pre_product_rules.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_product_rules m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_product_rules : Cert.Pre_product_rules.Facts),
    quiescent_Kernel (hKernel := hKernel)
    ∧ quiescent_KernelIdeal (hKernelIdeal := hKernelIdeal)
    ∧ quiescent_KernelIdeal_pre_product_rules (hKernelIdeal := hKernelIdeal) (hPre_product_rules := hPre_product_rules)
    ∧ quiescent_ReferenceIdeal (hReferenceIdeal := hReferenceIdeal)
    ∧ quiescent_ReferenceIdeal_pre_product_rules (hReferenceIdeal := hReferenceIdeal) (hPre_product_rules := hPre_product_rules)
    ∧ preserves_Kernel_KernelIdeal
    ∧ algebraic_KernelIdeal_ReferenceIdeal_pre_product_rules (hKernelIdeal := hKernelIdeal) (hReferenceIdeal := hReferenceIdeal) (hPre_product_rules := hPre_product_rules)
-- ==== Pre_product_rules.lean ====
abbrev S4096x4 : Shape := ⟨2, ![4096, 4]⟩
abbrev S4x7 : Shape := ⟨2, ![4, 7]⟩
abbrev S2401x4 : Shape := ⟨2, ![2401, 4]⟩
abbrev S_ : Shape := ⟨0, ![]⟩
abbrev S2401x1 : Shape := ⟨2, ![2401, 1]⟩

class Facts : Prop where
  bcast_S_S2401x4 : S_.BroadcastsInDim S2401x4 (![] : Fin 0 → Fin S2401x4.rank)
  slices_S2401x4_S2401x1_0_0 : S2401x4.Slices ![0, 0] S2401x1
  bcast_S_S2401x1 : S_.BroadcastsInDim S2401x1 (![] : Fin 0 → Fin S2401x1.rank)
  slices_S2401x4_S2401x1_0_1 : S2401x4.Slices ![0, 1] S2401x1
  slices_S2401x4_S2401x1_0_2 : S2401x4.Slices ![0, 2] S2401x1
  slices_S2401x4_S2401x1_0_3 : S2401x4.Slices ![0, 3] S2401x1
  bcast_S_S4x7 : S_.BroadcastsInDim S4x7 (![] : Fin 0 → Fin S4x7.rank)

variable [Facts]

def fn_part1 {F : FTy → Type} [FloatOps F] (main_v3 : IVec S2401x4 32) (main_v16 : IVec S2401x1 32) (main_v18 : IVec S4x7 1) : IVec S4x7 1 × IVec S2401x4 1 × IVec S2401x4 1 × IVec S2401x1 1 :=
  let main_c_3 : IVec S_ 32 := constantI S_ 32 0#32
  let main_v19 : IVec S2401x4 32 := broadcastInDim S2401x4 ![] bcast_S_S2401x4 main_c_3
  let main_v20 : IVec S2401x4 1 := cmpi .sge main_v3 main_v19
  let main_c_4 : IVec S_ 32 := constantI S_ 32 7#32
  let main_v21 : IVec S2401x4 32 := broadcastInDim S2401x4 ![] bcast_S_S2401x4 main_c_4
  let main_v22 : IVec S2401x4 1 := cmpi .slt main_v3 main_v21
  let main_v23 : IVec S2401x1 32 := iotaInDim S2401x1 32 0
  let main_v24 : IVec S2401x1 1 := cmpi .eq main_v16 main_v23
  (main_v18, main_v20, main_v22, main_v24)

def fn {F : FTy → Type} [FloatOps F] (main_arg0 : FVec F S4096x4 .f32) (main_arg1 : FVec F S4x7 .f32) (main_arg2 : FVec F S4x7 .f32) (main_arg3 : IVec S2401x4 32) : IVec S4x7 1 × IVec S2401x4 1 × IVec S2401x4 1 × IVec S2401x1 1 :=
  let main_v0 : IVec S2401x4 32 := iotaInDim S2401x4 32 1
  let main_c : IVec S_ 32 := constantI S_ 32 7#32
  let main_v1 : IVec S2401x4 32 := broadcastInDim S2401x4 ![] bcast_S_S2401x4 main_c
  let main_v2 : IVec S2401x4 32 := muli main_v1 main_v0
  let main_v3 : IVec S2401x4 32 := subi main_arg3 main_v2
  let main_v4 : IVec S2401x1 32 := (extractStridedSlice S2401x1 ![0, 0] · slices_S2401x4_S2401x1_0_0) main_v3
  let main_c_0 : IVec S_ 32 := constantI S_ 32 343#32
  let main_v5 : IVec S2401x1 32 := broadcastInDim S2401x1 ![] bcast_S_S2401x1 main_c_0
  let main_v6 : IVec S2401x1 32 := muli main_v4 main_v5
  let main_v7 : IVec S2401x1 32 := (extractStridedSlice S2401x1 ![0, 1] · slices_S2401x4_S2401x1_0_1) main_v3
  let main_c_1 : IVec S_ 32 := constantI S_ 32 49#32
  let main_v8 : IVec S2401x1 32 := broadcastInDim S2401x1 ![] bcast_S_S2401x1 main_c_1
  let main_v9 : IVec S2401x1 32 := muli main_v7 main_v8
  let main_v10 : IVec S2401x1 32 := addi main_v6 main_v9
  let main_v11 : IVec S2401x1 32 := (extractStridedSlice S2401x1 ![0, 2] · slices_S2401x4_S2401x1_0_2) main_v3
  let main_c_2 : IVec S_ 32 := constantI S_ 32 7#32
  let main_v12 : IVec S2401x1 32 := broadcastInDim S2401x1 ![] bcast_S_S2401x1 main_c_2
  let main_v13 : IVec S2401x1 32 := muli main_v11 main_v12
  let main_v14 : IVec S2401x1 32 := addi main_v10 main_v13
  let main_v15 : IVec S2401x1 32 := (extractStridedSlice S2401x1 ![0, 3] · slices_S2401x4_S2401x1_0_3) main_v3
  let main_v16 : IVec S2401x1 32 := addi main_v14 main_v15
  let main_cst : FVec F S_ .f32 := constant S_ .f32 0x00000000#32
  let main_v17 : FVec F S4x7 .f32 := broadcastInDim S4x7 ![] bcast_S_S4x7 main_cst
  let main_v18 : IVec S4x7 1 := cmpf .une main_arg2 main_v17
  fn_part1 (F := F) main_v3 main_v16 main_v18
-- ==== Kernel.lean ====
abbrev S4096x4 : Shape := ⟨2, ![4096, 4]⟩
abbrev S4x7 : Shape := ⟨2, ![4, 7]⟩
abbrev S2401x4 : Shape := ⟨2, ![2401, 4]⟩
abbrev S4x4096 : Shape := ⟨2, ![4, 4096]⟩
abbrev S28x1 : Shape := ⟨2, ![28, 1]⟩
abbrev S28x16 : Shape := ⟨2, ![28, 16]⟩
abbrev S9834496 : Shape := ⟨1, ![9834496]⟩
abbrev S4x128 : Shape := ⟨2, ![4, 128]⟩
abbrev S49x16 : Shape := ⟨2, ![49, 16]⟩
abbrev S38416 : Shape := ⟨1, ![38416]⟩
abbrev S_ : Shape := ⟨0, ![]⟩
abbrev S1x128 : Shape := ⟨2, ![1, 128]⟩
abbrev S128 : Shape := ⟨1, ![128]⟩
abbrev S16 : Shape := ⟨1, ![16]⟩
abbrev S1x16 : Shape := ⟨2, ![1, 16]⟩
abbrev S4096x2401 : Shape := ⟨2, ![4096, 2401]⟩

abbrev nBuf : Table → Nat
  | .hbm => 11
  | .local .scVector .vmem => 8
  | _ => 0

abbrev bufTy : (tb : Table) → Fin (nBuf tb) → BufTy
  | .hbm, ⟨0, _⟩ => ⟨S4096x4, .f32⟩
  | .hbm, ⟨1, _⟩ => ⟨S4x7, .f32⟩
  | .hbm, ⟨2, _⟩ => ⟨S4x7, .f32⟩
  | .hbm, ⟨3, _⟩ => ⟨S2401x4, .i32⟩
  | .hbm, ⟨4, _⟩ => ⟨S4x4096, .f32⟩
  | .hbm, ⟨5, _⟩ => ⟨S28x1, .f32⟩
  | .hbm, ⟨6, _⟩ => ⟨S28x16, .f32⟩
  | .hbm, ⟨7, _⟩ => ⟨S28x1, .f32⟩
  | .hbm, ⟨8, _⟩ => ⟨S28x16, .f32⟩
  | .hbm, ⟨9, _⟩ => ⟨S9834496, .f32⟩
  | .hbm, ⟨10, _⟩ => ⟨S4096x2401, .f32⟩
  | .local .scVector .vmem, ⟨0, _⟩ => ⟨S4x128, .f32⟩
  | .local .scVector .vmem, ⟨1, _⟩ => ⟨S28x16, .f32⟩
  | .local .scVector .vmem, ⟨2, _⟩ => ⟨S28x16, .f32⟩
  | .local .scVector .vmem, ⟨3, _⟩ => ⟨S28x16, .f32⟩
  | .local .scVector .vmem, ⟨4, _⟩ => ⟨S49x16, .f32⟩
  | .local .scVector .vmem, ⟨5, _⟩ => ⟨S49x16, .f32⟩
  | .local .scVector .vmem, ⟨6, _⟩ => ⟨S38416, .f32⟩
  | .local .scVector .vmem, ⟨7, _⟩ => ⟨S38416, .f32⟩
  | _, _ => ⟨S4096x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 4, rfl⟩
abbrev main_v2_scv : Ref sig .scVector := ⟨.hbm, 6, rfl⟩
abbrev main_v4_scv : Ref sig .scVector := ⟨.hbm, 8, rfl⟩
abbrev main_v5_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k0_off2 (i : grid0.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![1, v2.toNat]
def k0_off3 (i : grid0.Coords) : Fin 2 → Nat :=
  let c2_i32_2 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![2, v2.toNat]
def k0_off4 (i : grid0.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![3, v2.toNat]
@[reducible] def k0_t1_loop : Scf.Loop 32 :=
  let c0_i32_890 : BitVec 32 := 0#32
  let c49_i32 : BitVec 32 := 49#32
  let v1204 : BitVec 32 := Scalar.addi c0_i32_890 c49_i32
  let c1_i32_891 : BitVec 32 := 1#32
  ⟨c0_i32_890, v1204, c1_i32_891⟩
def k0_off5 (k0_t1 : Fin k0_t1_loop.trips) : Fin 2 → Nat :=
  let c0_i32_1702 : BitVec 32 := 0#32
  let c0_i32_890 : BitVec 32 := 0#32
  let c1_i32_891 : BitVec 32 := 1#32
  let arg16 : BitVec 32 := Scf.iv c0_i32_890 c1_i32_891 k0_t1
  let c1_i32_1701 : BitVec 32 := 1#32
  let v2249 : BitVec 32 := Scalar.muli arg16 c1_i32_1701
  let v2250 : BitVec 32 := Scalar.addi c0_i32_1702 v2249
  let v2251 : Index := Scalar.indexCast v2250
  let c0_1703 : Index := 0#32
  ![v2251.toNat, 0]
@[reducible] def k0_t2_loop : Scf.Loop 32 :=
  let c0_i32_1705 : BitVec 32 := 0#32
  let c49_i32_1706 : BitVec 32 := 49#32
  let v2256 : BitVec 32 := Scalar.addi c0_i32_1705 c49_i32_1706
  let c1_i32_1707 : BitVec 32 := 1#32
  ⟨c0_i32_1705, v2256, c1_i32_1707⟩
def k0_off6 (k0_t2 : Fin k0_t2_loop.trips) : Fin 2 → Nat :=
  let c0_i32_1710 : BitVec 32 := 0#32
  let c0_i32_1705 : BitVec 32 := 0#32
  let c1_i32_1707 : BitVec 32 := 1#32
  let arg17 : BitVec 32 := Scf.iv c0_i32_1705 c1_i32_1707 k0_t2
  let c1_i32_1709 : BitVec 32 := 1#32
  let v2257 : BitVec 32 := Scalar.muli arg17 c1_i32_1709
  let v2258 : BitVec 32 := Scalar.addi c0_i32_1710 v2257
  let v2259 : Index := Scalar.indexCast v2258
  let c0_1711 : Index := 0#32
  ![v2259.toNat, 0]

def k0_chk1 (v2263 : IVec S16 32) : Prop :=
  (∀ a x, ((![v2263] : Fin 1 → IVec S16 32) a x).toNat < S38416.size a)
theorem k0_idx1_inb : ∀ (v2263 : IVec S16 32) (k0_hw1 : k0_chk1 v2263), ∀ a x, ((![v2263] : Fin 1 → IVec S16 32) a x).toNat < S38416.size a := fun v2263 k0_hw1 => k0_hw1
def k0_off7 (i : grid0.Coords) (c0_i32_893 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v1205 : BitVec 32 := Scalar.addi v2 c0_i32_893
  let c2401_i32_894 : BitVec 32 := 2401#32
  let v1206 : BitVec 32 := Scalar.muli v1205 c2401_i32_894
  ![v1206.toNat]
@[reducible] def k0_t3_loop : Scf.Loop 32 :=
  let c0_i32_1686 : BitVec 32 := 0#32
  let c49_i32_1687 : BitVec 32 := 49#32
  let v2239 : BitVec 32 := Scalar.addi c0_i32_1686 c49_i32_1687
  let c1_i32_1688 : BitVec 32 := 1#32
  ⟨c0_i32_1686, v2239, c1_i32_1688⟩
def k0_off8 (k0_t3 : Fin k0_t3_loop.trips) : Fin 2 → Nat :=
  let c0_i32_1702 : BitVec 32 := 0#32
  let c0_i32_1686 : BitVec 32 := 0#32
  let c1_i32_1688 : BitVec 32 := 1#32
  let arg16 : BitVec 32 := Scf.iv c0_i32_1686 c1_i32_1688 k0_t3
  let c1_i32_1701 : BitVec 32 := 1#32
  let v2249 : BitVec 32 := Scalar.muli arg16 c1_i32_1701
  let v2250 : BitVec 32 := Scalar.addi c0_i32_1702 v2249
  let v2251 : Index := Scalar.indexCast v2250
  let c0_1703 : Index := 0#32
  ![v2251.toNat, 0]
@[reducible] def k0_t4_loop : Scf.Loop 32 :=
  let c0_i32_1705 : BitVec 32 := 0#32
  let c49_i32_1706 : BitVec 32 := 49#32
  let v2256 : BitVec 32 := Scalar.addi c0_i32_1705 c49_i32_1706
  let c1_i32_1707 : BitVec 32 := 1#32
  ⟨c0_i32_1705, v2256, c1_i32_1707⟩
def k0_off9 (k0_t4 : Fin k0_t4_loop.trips) : Fin 2 → Nat :=
  let c0_i32_1710 : BitVec 32 := 0#32
  let c0_i32_1705 : BitVec 32 := 0#32
  let c1_i32_1707 : BitVec 32 := 1#32
  let arg17 : BitVec 32 := Scf.iv c0_i32_1705 c1_i32_1707 k0_t4
  let c1_i32_1709 : BitVec 32 := 1#32
  let v2257 : BitVec 32 := Scalar.muli arg17 c1_i32_1709
  let v2258 : BitVec 32 := Scalar.addi c0_i32_1710 v2257
  let v2259 : Index := Scalar.indexCast v2258
  let c0_1711 : Index := 0#32
  ![v2259.toNat, 0]

def k0_chk2 (v2263 : IVec S16 32) : Prop :=
  (∀ a x, ((![v2263] : Fin 1 → IVec S16 32) a x).toNat < S38416.size a)
theorem k0_idx2_inb : ∀ (v2263 : IVec S16 32) (k0_hw2 : k0_chk2 v2263), ∀ a x, ((![v2263] : Fin 1 → IVec S16 32) a x).toNat < S38416.size a := fun v2263 k0_hw2 => k0_hw2
@[reducible] def k0_t5_loop : Scf.Loop 32 :=
  let c1_i32_1693 : BitVec 32 := 1#32
  let c3_i32_1694 : BitVec 32 := 3#32
  let v2244 : BitVec 32 := Scalar.addi c1_i32_1693 c3_i32_1694
  let c1_i32_1695 : BitVec 32 := 1#32
  ⟨c1_i32_1693, v2244, c1_i32_1695⟩
def k0_off10 (k0_t5 : Fin k0_t5_loop.trips) : Fin 2 → Nat :=
  let c0_i32_1707 : BitVec 32 := 0#32
  let v2255 : Index := Scalar.indexCast c0_i32_1707
  let c2_i32_1705 : BitVec 32 := 2#32
  let c1_i32_1693 : BitVec 32 := 1#32
  let c1_i32_1695 : BitVec 32 := 1#32
  let arg16 : BitVec 32 := Scf.iv c1_i32_1693 c1_i32_1695 k0_t5
  let v2253 : BitVec 32 := Scalar.muli c2_i32_1705 arg16
  let c16_i32_1706 : BitVec 32 := 16#32
  let v2254 : BitVec 32 := Scalar.muli v2253 c16_i32_1706
  let v2256 : Index := Scalar.indexCast v2254
  ![0, v2256.toNat]
def k0_off11 (k0_t5 : Fin k0_t5_loop.trips) : Fin 2 → Nat :=
  let c1_i32_1758 : BitVec 32 := 1#32
  let v2343 : Index := Scalar.indexCast c1_i32_1758
  let c2_i32_1705 : BitVec 32 := 2#32
  let c1_i32_1693 : BitVec 32 := 1#32
  let c1_i32_1695 : BitVec 32 := 1#32
  let arg16 : BitVec 32 := Scf.iv c1_i32_1693 c1_i32_1695 k0_t5
  let v2253 : BitVec 32 := Scalar.muli c2_i32_1705 arg16
  let c16_i32_1757 : BitVec 32 := 16#32
  let v2342 : BitVec 32 := Scalar.muli v2253 c16_i32_1757
  let v2344 : Index := Scalar.indexCast v2342
  ![1, v2344.toNat]
def k0_off12 (k0_t5 : Fin k0_t5_loop.trips) : Fin 2 → Nat :=
  let c2_i32_1809 : BitVec 32 := 2#32
  let v2431 : Index := Scalar.indexCast c2_i32_1809
  let c2_i32_1705 : BitVec 32 := 2#32
  let c1_i32_1693 : BitVec 32 := 1#32
  let c1_i32_1695 : BitVec 32 := 1#32
  let arg16 : BitVec 32 := Scf.iv c1_i32_1693 c1_i32_1695 k0_t5
  let v2253 : BitVec 32 := Scalar.muli c2_i32_1705 arg16
  let c16_i32_1808 : BitVec 32 := 16#32
  let v2430 : BitVec 32 := Scalar.muli v2253 c16_i32_1808
  let v2432 : Index := Scalar.indexCast v2430
  ![2, v2432.toNat]
def k0_off13 (k0_t5 : Fin k0_t5_loop.trips) : Fin 2 → Nat :=
  let c3_i32_1860 : BitVec 32 := 3#32
  let v2519 : Index := Scalar.indexCast c3_i32_1860
  let c2_i32_1705 : BitVec 32 := 2#32
  let c1_i32_1693 : BitVec 32 := 1#32
  let c1_i32_1695 : BitVec 32 := 1#32
  let arg16 : BitVec 32 := Scf.iv c1_i32_1693 c1_i32_1695 k0_t5
  let v2253 : BitVec 32 := Scalar.muli c2_i32_1705 arg16
  let c16_i32_1859 : BitVec 32 := 16#32
  let v2518 : BitVec 32 := Scalar.muli v2253 c16_i32_1859
  let v2520 : Index := Scalar.indexCast v2518
  ![3, v2520.toNat]
@[reducible] def k0_t6_loop : Scf.Loop 32 :=
  let c0_i32_2498 : BitVec 32 := 0#32
  let c49_i32_2499 : BitVec 32 := 49#32
  let v3292 : BitVec 32 := Scalar.addi c0_i32_2498 c49_i32_2499
  let c1_i32_2500 : BitVec 32 := 1#32
  ⟨c0_i32_2498, v3292, c1_i32_2500⟩
def k0_off14 (k0_t6 : Fin k0_t6_loop.trips) : Fin 2 → Nat :=
  let c0_i32_3305 : BitVec 32 := 0#32
  let c0_i32_2498 : BitVec 32 := 0#32
  let c1_i32_2500 : BitVec 32 := 1#32
  let arg17 : BitVec 32 := Scf.iv c0_i32_2498 c1_i32_2500 k0_t6
  let c1_i32_3304 : BitVec 32 := 1#32
  let v4344 : BitVec 32 := Scalar.muli arg17 c1_i32_3304
  let v4345 : BitVec 32 := Scalar.addi c0_i32_3305 v4344
  let v4346 : Index := Scalar.indexCast v4345
  let c0_3306 : Index := 0#32
  ![v4346.toNat, 0]
@[reducible] def k0_t7_loop : Scf.Loop 32 :=
  let c0_i32_3308 : BitVec 32 := 0#32
  let c49_i32_3309 : BitVec 32 := 49#32
  let v4351 : BitVec 32 := Scalar.addi c0_i32_3308 c49_i32_3309
  let c1_i32_3310 : BitVec 32 := 1#32
  ⟨c0_i32_3308, v4351, c1_i32_3310⟩
def k0_off15 (k0_t7 : Fin k0_t7_loop.trips) : Fin 2 → Nat :=
  let c0_i32_3313 : BitVec 32 := 0#32
  let c0_i32_3308 : BitVec 32 := 0#32
  let c1_i32_3310 : BitVec 32 := 1#32
  let arg18 : BitVec 32 := Scf.iv c0_i32_3308 c1_i32_3310 k0_t7
  let c1_i32_3312 : BitVec 32 := 1#32
  let v4352 : BitVec 32 := Scalar.muli arg18 c1_i32_3312
  let v4353 : BitVec 32 := Scalar.addi c0_i32_3313 v4352
  let v4354 : Index := Scalar.indexCast v4353
  let c0_3314 : Index := 0#32
  ![v4354.toNat, 0]

def k0_chk3 (v4358 : IVec S16 32) : Prop :=
  (∀ a x, ((![v4358] : Fin 1 → IVec S16 32) a x).toNat < S38416.size a)
theorem k0_idx3_inb : ∀ (v4358 : IVec S16 32) (k0_hw3 : k0_chk3 v4358), ∀ a x, ((![v4358] : Fin 1 → IVec S16 32) a x).toNat < S38416.size a := fun v4358 k0_hw3 => k0_hw3
def k0_off16 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_1705 : BitVec 32 := 2#32
  let c1_i32_1693 : BitVec 32 := 1#32
  let c1_i32_1695 : BitVec 32 := 1#32
  let arg16 : BitVec 32 := Scf.iv c1_i32_1693 c1_i32_1695 k0_t5
  let v2253 : BitVec 32 := Scalar.muli c2_i32_1705 arg16
  let c16_i32_2502 : BitVec 32 := 16#32
  let v3293 : BitVec 32 := Scalar.muli v2253 c16_i32_2502
  let v3294 : BitVec 32 := Scalar.addi v2 v3293
  let c2401_i32_2503 : BitVec 32 := 2401#32
  let v3295 : BitVec 32 := Scalar.muli v3294 c2401_i32_2503
  ![v3295.toNat]
def k0_off17 (k0_t5 : Fin k0_t5_loop.trips) : Fin 2 → Nat :=
  let c0_i32_2507 : BitVec 32 := 0#32
  let v3301 : Index := Scalar.indexCast c0_i32_2507
  let c2_i32_2504 : BitVec 32 := 2#32
  let c1_i32_1693 : BitVec 32 := 1#32
  let c1_i32_1695 : BitVec 32 := 1#32
  let arg16 : BitVec 32 := Scf.iv c1_i32_1693 c1_i32_1695 k0_t5
  let v3298 : BitVec 32 := Scalar.muli c2_i32_2504 arg16
  let c1_i32_2505 : BitVec 32 := 1#32
  let v3299 : BitVec 32 := Scalar.addi v3298 c1_i32_2505
  let c16_i32_2506 : BitVec 32 := 16#32
  let v3300 : BitVec 32 := Scalar.muli v3299 c16_i32_2506
  let v3302 : Index := Scalar.indexCast v3300
  ![0, v3302.toNat]
def k0_off18 (k0_t5 : Fin k0_t5_loop.trips) : Fin 2 → Nat :=
  let c1_i32_2558 : BitVec 32 := 1#32
  let v3389 : Index := Scalar.indexCast c1_i32_2558
  let c2_i32_2504 : BitVec 32 := 2#32
  let c1_i32_1693 : BitVec 32 := 1#32
  let c1_i32_1695 : BitVec 32 := 1#32
  let arg16 : BitVec 32 := Scf.iv c1_i32_1693 c1_i32_1695 k0_t5
  let v3298 : BitVec 32 := Scalar.muli c2_i32_2504 arg16
  let c1_i32_2505 : BitVec 32 := 1#32
  let v3299 : BitVec 32 := Scalar.addi v3298 c1_i32_2505
  let c16_i32_2557 : BitVec 32 := 16#32
  let v3388 : BitVec 32 := Scalar.muli v3299 c16_i32_2557
  let v3390 : Index := Scalar.indexCast v3388
  ![1, v3390.toNat]
def k0_off19 (k0_t5 : Fin k0_t5_loop.trips) : Fin 2 → Nat :=
  let c2_i32_2609 : BitVec 32 := 2#32
  let v3477 : Index := Scalar.indexCast c2_i32_2609
  let c2_i32_2504 : BitVec 32 := 2#32
  let c1_i32_1693 : BitVec 32 := 1#32
  let c1_i32_1695 : BitVec 32 := 1#32
  let arg16 : BitVec 32 := Scf.iv c1_i32_1693 c1_i32_1695 k0_t5
  let v3298 : BitVec 32 := Scalar.muli c2_i32_2504 arg16
  let c1_i32_2505 : BitVec 32 := 1#32
  let v3299 : BitVec 32 := Scalar.addi v3298 c1_i32_2505
  let c16_i32_2608 : BitVec 32 := 16#32
  let v3476 : BitVec 32 := Scalar.muli v3299 c16_i32_2608
  let v3478 : Index := Scalar.indexCast v3476
  ![2, v3478.toNat]
def k0_off20 (k0_t5 : Fin k0_t5_loop.trips) : Fin 2 → Nat :=
  let c3_i32_2660 : BitVec 32 := 3#32
  let v3565 : Index := Scalar.indexCast c3_i32_2660
  let c2_i32_2504 : BitVec 32 := 2#32
  let c1_i32_1693 : BitVec 32 := 1#32
  let c1_i32_1695 : BitVec 32 := 1#32
  let arg16 : BitVec 32 := Scf.iv c1_i32_1693 c1_i32_1695 k0_t5
  let v3298 : BitVec 32 := Scalar.muli c2_i32_2504 arg16
  let c1_i32_2505 : BitVec 32 := 1#32
  let v3299 : BitVec 32 := Scalar.addi v3298 c1_i32_2505
  let c16_i32_2659 : BitVec 32 := 16#32
  let v3564 : BitVec 32 := Scalar.muli v3299 c16_i32_2659
  let v3566 : Index := Scalar.indexCast v3564
  ![3, v3566.toNat]
@[reducible] def k0_t8_loop : Scf.Loop 32 :=
  let c0_i32_3298 : BitVec 32 := 0#32
  let c49_i32_3299 : BitVec 32 := 49#32
  let v4338 : BitVec 32 := Scalar.addi c0_i32_3298 c49_i32_3299
  let c1_i32_3300 : BitVec 32 := 1#32
  ⟨c0_i32_3298, v4338, c1_i32_3300⟩
def k0_off21 (k0_t8 : Fin k0_t8_loop.trips) : Fin 2 → Nat :=
  let c0_i32_3305 : BitVec 32 := 0#32
  let c0_i32_3298 : BitVec 32 := 0#32
  let c1_i32_3300 : BitVec 32 := 1#32
  let arg17 : BitVec 32 := Scf.iv c0_i32_3298 c1_i32_3300 k0_t8
  let c1_i32_3304 : BitVec 32 := 1#32
  let v4344 : BitVec 32 := Scalar.muli arg17 c1_i32_3304
  let v4345 : BitVec 32 := Scalar.addi c0_i32_3305 v4344
  let v4346 : Index := Scalar.indexCast v4345
  let c0_3306 : Index := 0#32
  ![v4346.toNat, 0]
@[reducible] def k0_t9_loop : Scf.Loop 32 :=
  let c0_i32_3308 : BitVec 32 := 0#32
  let c49_i32_3309 : BitVec 32 := 49#32
  let v4351 : BitVec 32 := Scalar.addi c0_i32_3308 c49_i32_3309
  let c1_i32_3310 : BitVec 32 := 1#32
  ⟨c0_i32_3308, v4351, c1_i32_3310⟩
def k0_off22 (k0_t9 : Fin k0_t9_loop.trips) : Fin 2 → Nat :=
  let c0_i32_3313 : BitVec 32 := 0#32
  let c0_i32_3308 : BitVec 32 := 0#32
  let c1_i32_3310 : BitVec 32 := 1#32
  let arg18 : BitVec 32 := Scf.iv c0_i32_3308 c1_i32_3310 k0_t9
  let c1_i32_3312 : BitVec 32 := 1#32
  let v4352 : BitVec 32 := Scalar.muli arg18 c1_i32_3312
  let v4353 : BitVec 32 := Scalar.addi c0_i32_3313 v4352
  let v4354 : Index := Scalar.indexCast v4353
  let c0_3314 : Index := 0#32
  ![v4354.toNat, 0]

def k0_chk4 (v4358 : IVec S16 32) : Prop :=
  (∀ a x, ((![v4358] : Fin 1 → IVec S16 32) a x).toNat < S38416.size a)
theorem k0_idx4_inb : ∀ (v4358 : IVec S16 32) (k0_hw4 : k0_chk4 v4358), ∀ a x, ((![v4358] : Fin 1 → IVec S16 32) a x).toNat < S38416.size a := fun v4358 k0_hw4 => k0_hw4
def k0_off23 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_2504 : BitVec 32 := 2#32
  let c1_i32_1693 : BitVec 32 := 1#32
  let c1_i32_1695 : BitVec 32 := 1#32
  let arg16 : BitVec 32 := Scf.iv c1_i32_1693 c1_i32_1695 k0_t5
  let v3298 : BitVec 32 := Scalar.muli c2_i32_2504 arg16
  let c1_i32_2505 : BitVec 32 := 1#32
  let v3299 : BitVec 32 := Scalar.addi v3298 c1_i32_2505
  let c16_i32_3302 : BitVec 32 := 16#32
  let v4339 : BitVec 32 := Scalar.muli v3299 c16_i32_3302
  let v4340 : BitVec 32 := Scalar.addi v2 v4339
  let c2401_i32_3303 : BitVec 32 := 2401#32
  let v4341 : BitVec 32 := Scalar.muli v4340 c2401_i32_3303
  ![v4341.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x4 : Shape := ⟨2, ![4096, 4]⟩
abbrev S4x7 : Shape := ⟨2, ![4, 7]⟩
abbrev S2401x4 : Shape := ⟨2, ![2401, 4]⟩
abbrev S4096x1 : Shape := ⟨2, ![4096, 1]⟩
abbrev S1x7 : Shape := ⟨2, ![1, 7]⟩
abbrev S7 : Shape := ⟨1, ![7]⟩
abbrev S4096x7 : Shape := ⟨2, ![4096, 7]⟩
abbrev S_ : Shape := ⟨0, ![]⟩
abbrev S4096x28 : Shape := ⟨2, ![4096, 28]⟩
abbrev S2401x4x1 : Shape := ⟨3, ![2401, 4, 1]⟩
abbrev S1 : Shape := ⟨1, ![1]⟩
abbrev S1x1x1 : Shape := ⟨3, ![1, 1, 1]⟩
abbrev S4096x2401x4 : Shape := ⟨3, ![4096, 2401, 4]⟩
abbrev S4096x2401 : Shape := ⟨2, ![4096, 2401]⟩

abbrev nBuf : Space → Nat
  | .hbm => 98
  | .vmem => 0
  | .smem => 0
  | _ => 0

abbrev bufTy : (tb : Table) → Fin (tcTables nBuf tb) → BufTy
  | .hbm, ⟨0, _⟩ => ⟨S4096x4, .f32⟩
  | .hbm, ⟨1, _⟩ => ⟨S4x7, .f32⟩
  | .hbm, ⟨2, _⟩ => ⟨S4x7, .f32⟩
  | .hbm, ⟨3, _⟩ => ⟨S2401x4, .i32⟩
  | .hbm, ⟨4, _⟩ => ⟨S4096x1, .f32⟩
  | .hbm, ⟨5, _⟩ => ⟨S1x7, .f32⟩
  | .hbm, ⟨6, _⟩ => ⟨S7, .f32⟩
  | .hbm, ⟨7, _⟩ => ⟨S1x7, .f32⟩
  | .hbm, ⟨8, _⟩ => ⟨S4096x7, .f32⟩
  | .hbm, ⟨9, _⟩ => ⟨S4096x7, .f32⟩
  | .hbm, ⟨10, _⟩ => ⟨S4096x7, .f32⟩
  | .hbm, ⟨11, _⟩ => ⟨S1x7, .f32⟩
  | .hbm, ⟨12, _⟩ => ⟨S7, .f32⟩
  | .hbm, ⟨13, _⟩ => ⟨S1x7, .f32⟩
  | .hbm, ⟨14, _⟩ => ⟨S4096x7, .f32⟩
  | .hbm, ⟨15, _⟩ => ⟨S4096x7, .f32⟩
  | .hbm, ⟨16, _⟩ => ⟨S4096x7, .f32⟩
  | .hbm, ⟨17, _⟩ => ⟨S_, .f32⟩
  | .hbm, ⟨18, _⟩ => ⟨S4096x7, .f32⟩
  | .hbm, ⟨19, _⟩ => ⟨S4096x7, .f32⟩
  | .hbm, ⟨20, _⟩ => ⟨S4096x7, .f32⟩
  | .hbm, ⟨21, _⟩ => ⟨S4096x1, .f32⟩
  | .hbm, ⟨22, _⟩ => ⟨S1x7, .f32⟩
  | .hbm, ⟨23, _⟩ => ⟨S7, .f32⟩
  | .hbm, ⟨24, _⟩ => ⟨S1x7, .f32⟩
  | .hbm, ⟨25, _⟩ => ⟨S4096x7, .f32⟩
  | .hbm, ⟨26, _⟩ => ⟨S4096x7, .f32⟩
  | .hbm, ⟨27, _⟩ => ⟨S4096x7, .f32⟩
  | .hbm, ⟨28, _⟩ => ⟨S1x7, .f32⟩
  | .hbm, ⟨29, _⟩ => ⟨S7, .f32⟩
  | .hbm, ⟨30, _⟩ => ⟨S1x7, .f32⟩
  | .hbm, ⟨31, _⟩ => ⟨S4096x7, .f32⟩
  | .hbm, ⟨32, _⟩ => ⟨S4096x7, .f32⟩
  | .hbm, ⟨33, _⟩ => ⟨S4096x7, .f32⟩
  | .hbm, ⟨34, _⟩ => ⟨S_, .f32⟩
  | .hbm, ⟨35, _⟩ => ⟨S4096x7, .f32⟩
  | .hbm, ⟨36, _⟩ => ⟨S4096x7, .f32⟩
  | .hbm, ⟨37, _⟩ => ⟨S4096x7, .f32⟩
  | .hbm, ⟨38, _⟩ => ⟨S4096x1, .f32⟩
  | .hbm, ⟨39, _⟩ => ⟨S1x7, .f32⟩
  | .hbm, ⟨40, _⟩ => ⟨S7, .f32⟩
  | .hbm, ⟨41, _⟩ => ⟨S1x7, .f32⟩
  | .hbm, ⟨42, _⟩ => ⟨S4096x7, .f32⟩
  | .hbm, ⟨43, _⟩ => ⟨S4096x7, .f32⟩
  | .hbm, ⟨44, _⟩ => ⟨S4096x7, .f32⟩
  | .hbm, ⟨45, _⟩ => ⟨S1x7, .f32⟩
  | .hbm, ⟨46, _⟩ => ⟨S7, .f32⟩
  | .hbm, ⟨47, _⟩ => ⟨S1x7, .f32⟩
  | .hbm, ⟨48, _⟩ => ⟨S4096x7, .f32⟩
  | .hbm, ⟨49, _⟩ => ⟨S4096x7, .f32⟩
  | .hbm, ⟨50, _⟩ => ⟨S4096x7, .f32⟩
  | .hbm, ⟨51, _⟩ => ⟨S_, .f32⟩
  | .hbm, ⟨52, _⟩ => ⟨S4096x7, .f32⟩
  | .hbm, ⟨53, _⟩ => ⟨S4096x7, .f32⟩
  | .hbm, ⟨54, _⟩ => ⟨S4096x7, .f32⟩
  | .hbm, ⟨55, _⟩ => ⟨S4096x1, .f32⟩
  | .hbm, ⟨56, _⟩ => ⟨S1x7, .f32⟩
  | .hbm, ⟨57, _⟩ => ⟨S7, .f32⟩
  | .hbm, ⟨58, _⟩ => ⟨S1x7, .f32⟩
  | .hbm, ⟨59, _⟩ => ⟨S4096x7, .f32⟩
  | .hbm, ⟨60, _⟩ => ⟨S4096x7, .f32⟩
  | .hbm, ⟨61, _⟩ => ⟨S4096x7, .f32⟩
  | .hbm, ⟨62, _⟩ => ⟨S1x7, .f32⟩
  | .hbm, ⟨63, _⟩ => ⟨S7, .f32⟩
  | .hbm, ⟨64, _⟩ => ⟨S1x7, .f32⟩
  | .hbm, ⟨65, _⟩ => ⟨S4096x7, .f32⟩
  | .hbm, ⟨66, _⟩ => ⟨S4096x7, .f32⟩
  | .hbm, ⟨67, _⟩ => ⟨S4096x7, .f32⟩
  | .hbm, ⟨68, _⟩ => ⟨S_, .f32⟩
  | .hbm, ⟨69, _⟩ => ⟨S4096x7, .f32⟩
  | .hbm, ⟨70, _⟩ => ⟨S4096x7, .f32⟩
  | .hbm, ⟨71, _⟩ => ⟨S4096x7, .f32⟩
  | .hbm, ⟨72, _⟩ => ⟨S4096x28, .f32⟩
  | .hbm, ⟨73, _⟩ => ⟨S_, .i32⟩
  | .hbm, ⟨74, _⟩ => ⟨S2401x4, .i32⟩
  | .hbm, ⟨75, _⟩ => ⟨S2401x4, .i1⟩
  | .hbm, ⟨76, _⟩ => ⟨S_, .i32⟩
  | .hbm, ⟨77, _⟩ => ⟨S2401x4, .i32⟩
  | .hbm, ⟨78, _⟩ => ⟨S2401x4, .i32⟩
  | .hbm, ⟨79, _⟩ => ⟨S2401x4, .i32⟩
  | .hbm, ⟨80, _⟩ => ⟨S2401x4x1, .i32⟩
  | .hbm, ⟨81, _⟩ => ⟨S1, .i32⟩
  | .hbm, ⟨82, _⟩ => ⟨S_, .i32⟩
  | .hbm, ⟨83, _⟩ => ⟨S2401x4x1, .i32⟩
  | .hbm, ⟨84, _⟩ => ⟨S2401x4x1, .i1⟩
  | .hbm, ⟨85, _⟩ => ⟨S1x1x1, .i32⟩
  | .hbm, ⟨86, _⟩ => ⟨S2401x4x1, .i32⟩
  | .hbm, ⟨87, _⟩ => ⟨S2401x4x1, .i1⟩
  | .hbm, ⟨88, _⟩ => ⟨S2401x4x1, .i1⟩
  | .hbm, ⟨89, _⟩ => ⟨S_, .i1⟩
  | .hbm, ⟨90, _⟩ => ⟨S2401x4, .i1⟩
  | .hbm, ⟨91, _⟩ => ⟨S4096x2401x4, .f32⟩
  | .hbm, ⟨92, _⟩ => ⟨S4096x2401x4, .i1⟩
  | .hbm, ⟨93, _⟩ => ⟨S_, .f32⟩
  | .hbm, ⟨94, _⟩ => ⟨S4096x2401x4, .f32⟩
  | .hbm, ⟨95, _⟩ => ⟨S4096x2401x4, .f32⟩
  | .hbm, ⟨96, _⟩ => ⟨S_, .f32⟩
  | .hbm, ⟨97, _⟩ => ⟨S4096x2401, .f32⟩
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_1 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_2 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_call0_c : Ref sig .tc := ⟨.hbm, 73, rfl⟩
abbrev main_call0_v0 : Ref sig .tc := ⟨.hbm, 74, rfl⟩
abbrev main_call0_v1 : Ref sig .tc := ⟨.hbm, 75, rfl⟩
abbrev main_call0_c_0 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_c_1 : Ref sig .tc := ⟨.hbm, 81, rfl⟩
abbrev main_call0_c_2 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_c_3 : Ref sig .tc := ⟨.hbm, 89, rfl⟩
abbrev main_call0_v12 : Ref sig .tc := ⟨.hbm, 90, rfl⟩
abbrev main_call0_v13 : Ref sig .tc := ⟨.hbm, 91, rfl⟩
abbrev main_call0_v14 : Ref sig .tc := ⟨.hbm, 92, rfl⟩
abbrev main_call0_cst : Ref sig .tc := ⟨.hbm, 93, rfl⟩
abbrev main_call0_v15 : Ref sig .tc := ⟨.hbm, 94, rfl⟩
abbrev main_v65 : Ref sig .tc := ⟨.hbm, 95, rfl⟩
abbrev main_cst_3 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== Proof.Tile.lean ====
/-
  One vector subcore's program, written compactly: the kernel's body spells every membership row and every row of pair
  minima out, one access after another; here each is one step, repeated over a list of row numbers, and the four fills are
  one function of the slot. `body_eq` says the two are the same program.
-/
module

public import proofs.«01_k».proof.Defs
public import Idealize.ShloMosaic.Lib.Tactic
public import proofs.«01_k».proof.Proof.Gen.KernelIdeal

@[expose] public section

noncomputable section

namespace Cert.Proof.Tile

open Cert.KernelIdeal Cert.KernelIdeal.Gen
open Idealize.ShloMosaic Idealize.SL.Sem

variable {F : FTy → Type} [FloatOps F]

/-- The programs of the vector subcore at grid coordinates `i`. -/
abbrev TP (F : FTy → Type) [FloatOps F] (i : grid0.Coords) (α : Type) : Type 1 :=
  Prog (TpuEff nD τ sig (Elt F) Λ₀ (.scVector ((i 0).castLE hcore0) ((i 1).castLE hsub0))) α

/-! The arrays in HBM (the transposed inputs, the centers, the widths, the weights), and the subcore's own buffers. -/

abbrev xT : Memref sig .scVector .hbm S4x4096 .f32 := Memref.whole main_v0_scv
abbrev cH : Memref sig .scVector .hbm S28x16 .f32 := Memref.whole main_v2_scv
abbrev sH : Memref sig .scVector .hbm S28x16 .f32 := Memref.whole main_v4_scv
abbrev oH : Memref sig .scVector .hbm S9834496 .f32 := Memref.whole main_v5_scv
abbrev xB : Memref sig .scVector .vmem S4x128 .f32 := Memref.whole cc0_scratch0
abbrev cB : Memref sig .scVector .vmem S28x16 .f32 := Memref.whole cc0_scratch1
abbrev rB : Memref sig .scVector .vmem S28x16 .f32 := Memref.whole cc0_scratch2
abbrev fB : Memref sig .scVector .vmem S28x16 .f32 := Memref.whole cc0_scratch3
abbrev pB : Memref sig .scVector .vmem S49x16 .f32 := Memref.whole cc0_scratch4
abbrev qB : Memref sig .scVector .vmem S49x16 .f32 := Memref.whole cc0_scratch5

/-- The seven memberships of an input. -/
abbrev sevens : List (Fin 7) := [0, 1, 2, 3, 4, 5, 6]
/-- The four inputs. -/
abbrev fours : List (Fin 4) := [0, 1, 2, 3]

theorem in28 (j : Fin 28) : ∀ a, (![j.val, 0] : Fin 2 → Nat) a + S1x16.size a ≤ S28x16.size a := by
  intro a; fin_cases a
  · exact j.isLt
  · exact le_refl _
theorem in49 (j : Fin 49) : ∀ a, (![j.val, 0] : Fin 2 → Nat) a + S1x16.size a ≤ S49x16.size a := by
  intro a; fin_cases a
  · exact j.isLt
  · exact le_refl _

/-- Row `j` of a 28-row buffer, and of a 49-row one. -/
abbrev row28 (j : Fin 28) : Rect S28x16 := Rect.unit (s := S28x16) ![j.val, 0] S1x16.size (in28 j)
abbrev row49 (j : Fin 49) : Rect S49x16 := Rect.unit (s := S49x16) ![j.val, 0] S1x16.size (in49 j)

/-- The row of membership `m` of input `v`. -/
abbrev mrow (v : Fin 4) (m : Fin 7) : Fin 28 := ⟨v.val * 7 + m.val, by omega⟩
/-- The row of the pair `(a, b)`. -/
abbrev prow (a b : Fin 7) : Fin 49 := ⟨a.val * 7 + b.val, by omega⟩

/-- A row as a vector of sixteen lanes, and back. -/
abbrev flat (x : Vec F S1x16 .f32) : Vec F S16 .f32 := shapeCast S16 x shapeCasts_S1x16_S16
abbrev unflat (x : FVec F S16 .f32) : Vec F S1x16 .f32 := shapeCast S1x16 x shapeCasts_S16_S1x16

/-- The reciprocals of sixteen widths. -/
abbrev recipV (s : FVec F S16 .f32) : FVec F S16 .f32 :=
  divf (broadcast S16 (Scalar.ofBits .f32 0x3F800000#32 : F .f32)) s

/-- A membership at sixteen inputs: `exp (-1/2 t t)`, `t` the distance from the center in widths. -/
abbrev memV (x c r : FVec F S16 .f32) : FVec F S16 .f32 :=
  exp (mulf (mulf (broadcast S16 (Scalar.ofBits .f32 0xBF000000#32 : F .f32)) (mulf (subf x c) r)) (mulf (subf x c) r))

/-- A step for each entry of a list, in order, then `k`. -/
def each {i : grid0.Coords} {β : Type} (f : β → (PUnit.{1} → TP F i PUnit) → TP F i PUnit) (l : List β) (k : PUnit.{1} → TP F i PUnit) : PUnit.{1} → TP F i PUnit :=
  l.foldr (fun b k _ => f b k) k

/-- One width's row replaced by its reciprocals, then `k`. -/
def recipStep {i : grid0.Coords} (j : Fin 28) (k : PUnit.{1} → TP F i PUnit) : TP F i PUnit :=
  .op (.load rB (row28 j).toLoadRect (View.loadsAt_vmem h_S1x16)) fun s =>
  .op (.load rB (row28 j).toLoadRect (View.loadsAt_vmem h_S1x16)) fun _ =>
  .op (.store rB (row28 j) (unflat (recipV (flat s))) Finset.univ (View.stores_vmem_bits_univ h_S1x16 rfl) (.inl rfl)) k

/-- One membership's row, then `k`. -/
def memStep {i : grid0.Coords} (x : Vec F S16 .f32) (j : Fin 28) (k : PUnit.{1} → TP F i PUnit) : TP F i PUnit :=
  .op (.load cB (row28 j).toLoadRect (View.loadsAt_vmem h_S1x16)) fun c =>
  .op (.load rB (row28 j).toLoadRect (View.loadsAt_vmem h_S1x16)) fun r =>
  .op (.load fB (row28 j).toLoadRect (View.loadsAt_vmem h_S1x16)) fun _ =>
  .op (.store fB (row28 j) (unflat (memV x (flat c) (flat r))) Finset.univ (View.stores_vmem_bits_univ h_S1x16 rfl) (.inl rfl)) k

/-- One input's seven membership rows, the sixteen inputs at offsets `o`, then `k`. -/
def memInput {i : grid0.Coords} (o : Fin 4 → Fin 2 → Nat) (ho : ∀ v a, o v a + S1x16.size a ≤ S4x128.size a) (v : Fin 4) (k : PUnit.{1} → TP F i PUnit) : TP F i PUnit :=
  .op (.load xB (Rect.unit (s := S4x128) (o v) S1x16.size (ho v)).toLoadRect (View.loadsAt_vmem h_S1x16)) fun x =>
  each (fun m => memStep (flat x) (mrow v m)) sevens k ⟨⟩

/-- The pair minima of inputs 0, 1: one row, then `k`. -/
def pairP {i : grid0.Coords} (a b : Fin 7) (k : PUnit.{1} → TP F i PUnit) : TP F i PUnit :=
  .op (.load fB (row28 (mrow 0 a)).toLoadRect (View.loadsAt_vmem h_S1x16)) fun x =>
  .op (.load fB (row28 (mrow 1 b)).toLoadRect (View.loadsAt_vmem h_S1x16)) fun y =>
  .op (.load pB (row49 (prow a b)).toLoadRect (View.loadsAt_vmem h_S1x16)) fun _ =>
  .op (.store pB (row49 (prow a b)) (unflat (minimumf (flat x) (flat y))) Finset.univ (View.stores_vmem_bits_univ h_S1x16 rfl) (.inl rfl)) k

/-- The pair minima of inputs 2, 3: one row, then `k`. -/
def pairQ {i : grid0.Coords} (a b : Fin 7) (k : PUnit.{1} → TP F i PUnit) : TP F i PUnit :=
  .op (.load fB (row28 (mrow 2 a)).toLoadRect (View.loadsAt_vmem h_S1x16)) fun x =>
  .op (.load fB (row28 (mrow 3 b)).toLoadRect (View.loadsAt_vmem h_S1x16)) fun y =>
  .op (.load qB (row49 (prow a b)).toLoadRect (View.loadsAt_vmem h_S1x16)) fun _ =>
  .op (.store qB (row49 (prow a b)) (unflat (minimumf (flat x) (flat y))) Finset.univ (View.stores_vmem_bits_univ h_S1x16 rfl) (.inl rfl)) k

/-- The memberships of sixteen rows of inputs and all their pair minima, then `k`. -/
def compute {i : grid0.Coords} (o : Fin 4 → Fin 2 → Nat) (ho : ∀ v a, o v a + S1x16.size a ≤ S4x128.size a) (k : PUnit.{1} → TP F i PUnit) : TP F i PUnit :=
  each (memInput o ho) fours (each (fun (a : Fin 7) k => each (fun (b : Fin 7) k => pairP a b fun _ => pairQ a b k) sevens k ⟨⟩) sevens k) ⟨⟩

/-- Where each lane's row of 2401 weights starts in a group's buffer. -/
abbrev laneOff : IVec S16 32 := muli (iota .scVector S16 32 [0] iota_S16_d0_w32_scVector) (broadcast S16 2401#32)

/-- The words of the slots a trip of the two loops writes: rule `49 k + l` of each lane's row. -/
abbrev slotIdx (k : Fin k0_t1_loop.trips) (l : Fin k0_t2_loop.trips) : IVec S16 32 :=
  addi (addi laneOff (broadcast S16 (Scalar.muli (Scalar.addi 0#32 (Scalar.muli (Scf.iv 0#32 1#32 k) 1#32)) 49#32)))
    (broadcast S16 (Scalar.addi 0#32 (Scalar.muli (Scf.iv 0#32 1#32 l) 1#32)))

/-- One trip of the inner loop: the minima of one pair of each half, scattered. -/
def scatterStep {i : grid0.Coords} (B : Memref sig .scVector .vmem S38416 .f32) (k : Fin k0_t1_loop.trips) (x : Vec F S16 .f32)
    (l : Fin k0_t2_loop.trips) : TP F i PUnit :=
  .op (.load qB (Rect.unit (s := S49x16) (k0_off6 l) S1x16.size (k0_off6_inb l)).toLoadRect (View.loadsAt_vmem h_S1x16)) fun y =>
  .op (.assume (k0_chk1 (slotIdx k l)) (k0_chk1.dec (slotIdx k l))) fun hw =>
  .op (.load B (.whole S38416) (View.loadsAt_rect (View.stores_vmem_bits_univ h_S38416 rfl).loads)) fun f =>
  .op (.store B (.whole S38416) (storeIdx f ![slotIdx k l] (minimumf x (flat y)) (fun _ => 1#1) false (k0_idx1_inb (slotIdx k l) hw.down))
    Finset.univ (View.stores_vmem_bits_univ h_S38416 rfl) (.inl rfl)) fun _ => .ret ⟨⟩

/-- The pair minima of pair `k` of inputs 0, 1 against every pair of inputs 2, 3, scattered. -/
def scatterRow {i : grid0.Coords} (B : Memref sig .scVector .vmem S38416 .f32) (k : Fin k0_t1_loop.trips) : TP F i PUnit :=
  .op (.load pB (Rect.unit (s := S49x16) (k0_off5 k) S1x16.size (k0_off5_inb k)).toLoadRect (View.loadsAt_vmem h_S1x16)) fun x =>
  (Scf.Loop.for k0_t2_loop k0_t2_ok ⟨⟩ fun l _ => scatterStep B k (flat x) l).bind fun _ => .ret ⟨⟩

/-- Every rule's weight for the sixteen rows into buffer `B`, then `k`. -/
def scatters {i : grid0.Coords} (B : Memref sig .scVector .vmem S38416 .f32) (k : PUnit.{1} → TP F i PUnit) : TP F i PUnit :=
  (Scf.Loop.for k0_t1_loop k0_t1_ok ⟨⟩ fun k _ => scatterRow B k).bind k

/-- The start of a buffer's copy to the result at offset `w`, then `k`. -/
def send {i : grid0.Coords} (B : Memref sig .scVector .vmem S38416 .f32) (hB : B.IsWhole) (s : DmaSems sig S_)
    (w : Fin 1 → Nat) (hw : ∀ a, w a + S38416.size a ≤ S9834496.size a) (k : PUnit.{1} → TP F i PUnit) : TP F i PUnit :=
  .op (.enqueueDma B (.here (oH.slice (Rect.unit (s := S9834496) w S38416.size hw) (fun _ => rfl))) (.dma s.sem) hB.wordExact (View.wordExact_bits rfl) ⟨Or.inl rfl, trivial⟩) k

/-- The wait for a buffer's copy, then `k`. -/
def drain {i : grid0.Coords} (B : Memref sig .scVector .vmem S38416 .f32) (hB : B.IsWhole) (s : DmaSems sig S_) (k : PUnit.{1} → TP F i PUnit) : TP F i PUnit :=
  .op (.waitDma2 s.sem B (oH.slice (Rect.unit (s := S9834496) ![0] S38416.size inb_S9834496_S38416_0) (fun _ => rfl)) hB.wordExact (View.wordExact_bits rfl)) k

/-- One input's copy into row `v` of the subcore's block and the wait for it, then `k`. -/
def xCopy {i : grid0.Coords} (v : Fin 4) (o : Fin 2 → Nat) (ho : ∀ a, o a + S1x128.size a ≤ S4x4096.size a)
    (hv : ∀ a, (![v.val, 0] : Fin 2 → Nat) a + S1x128.size a ≤ S4x128.size a) (s : DmaSems sig S_) (k : PUnit.{1} → TP F i PUnit) : TP F i PUnit :=
  .op (.enqueueDma ((xT.slice (Rect.unit (s := S4x4096) o S1x128.size ho) (fun _ => rfl)).squeeze S128 squeezes_S1x128_S128)
    (.here ((xB.slice (Rect.unit (s := S4x128) ![v.val, 0] S1x128.size hv) (fun _ => rfl)).squeeze S128 squeezes_S1x128_S128)) (.dma s.sem)
    ((View.wordExact_bits rfl).reshape _ _) ((View.wordExact_bits rfl).reshape _ _) ⟨Or.inl rfl, trivial⟩) fun _ =>
  .op (.waitDma2 s.sem ((xT.slice (Rect.unit (s := S4x4096) o S1x128.size ho) (fun _ => rfl)).squeeze S128 squeezes_S1x128_S128)
    ((xB.slice (Rect.unit (s := S4x128) ![v.val, 0] S1x128.size hv) (fun _ => rfl)).squeeze S128 squeezes_S1x128_S128)
    ((View.wordExact_bits rfl).reshape _ _) ((View.wordExact_bits rfl).reshape _ _)) k

/-- A whole array's copy into a buffer of the subcore's and the wait for it, then `k`. -/
def wCopy {i : grid0.Coords} (A : Memref sig .scVector .hbm S28x16 .f32) (hA : A.IsWhole) (B : Memref sig .scVector .vmem S28x16 .f32) (hB : B.IsWhole)
    (s : DmaSems sig S_) (k : PUnit.{1} → TP F i PUnit) : TP F i PUnit :=
  .op (.enqueueDma A (.here B) (.dma s.sem) hA.wordExact hB.wordExact ⟨Or.inl rfl, trivial⟩) fun _ =>
  .op (.waitDma2 s.sem A B hA.wordExact hB.wordExact) k

theorem bind_bind {i : grid0.Coords} {α β γ : Type} (p : TP F i α) (f : α → TP F i β) (g : β → TP F i γ) :
    (p.bind f).bind g = p.bind fun a => (f a).bind g := Prog.bind_assoc p f g

abbrev wA : Memref sig .scVector .vmem S38416 .f32 := Memref.whole cc0_scratch6
abbrev wB : Memref sig .scVector .vmem S38416 .f32 := Memref.whole cc0_scratch7

theorem in4 (v : Fin 4) : ∀ a, (![v.val, 0] : Fin 2 → Nat) a + S1x128.size a ≤ S4x128.size a := by
  intro a; fin_cases a
  · exact v.isLt
  · exact le_refl _

end Cert.Proof.Tile

end
-- ==== Proof.TileRows.lean ====
/-
  Rows of the subcore's buffers as plain functions: what a load of a row reads, what a store of a row leaves, and what the
  vector formulas are at a lane.
-/
module

public import proofs.«01_k».proof.Proof.Tile
public import Idealize.ShloMosaic.Lib.ValueIdxCore
public import Idealize.ShloMosaic.Lib.ValueLayout
public import Idealize.ShloMosaic.Lib.Writes

@[expose] public section

noncomputable section

namespace Cert.Proof.Tile

open Cert.KernelIdeal Cert.KernelIdeal.Gen
open Idealize.ShloMosaic Idealize.SL.Sem Idealize.ShloMosaic.ValueIdx

variable {F : FTy → Type} [FloatOps F]

/-- A table of `n` rows of `c` entries. -/
abbrev Tab (n c : Nat) (α : Type) : Type := (⟨2, ![n, c]⟩ : Shape).Idx → α

/-- A table with row `j` replaced. -/
def setRow {n c : Nat} {α : Type} (f : Tab n c α) (j : Fin n) (w : Fin c → α) : Tab n c α :=
  fun x => if (x 0).val = j.val then w (x 1) else f x

theorem setRow_same {n c : Nat} {α : Type} (f : Tab n c α) (j : Fin n) (w : Fin c → α) (l : Fin c) :
    setRow f j w (ix2 j l) = w l := if_pos rfl
theorem setRow_other {n c : Nat} {α : Type} (f : Tab n c α) (j j' : Fin n) (w : Fin c → α) (l : Fin c) (h : j' ≠ j) :
    setRow f j w (ix2 j' l) = f (ix2 j' l) := if_neg fun e => h (Fin.ext e)

/-- The membership formula at one input. -/
def mem1 (x c r : F .f32) : F .f32 := memV (fun _ => x) (fun _ => c) (fun _ => r) (ix1 0)
/-- The smaller of two weights. -/
def min1 (x y : F .f32) : F .f32 := minimumf (s := S16) (φ := .f32) (fun _ => x) (fun _ => y) (ix1 0)
/-- The reciprocal of a width. -/
def rec1 (s : F .f32) : F .f32 := recipV (fun _ => s) (ix1 0)

theorem memV_lane (x c r : FVec F S16 .f32) (l : Fin 16) : memV x c r (ix1 l) = mem1 (x (ix1 l)) (c (ix1 l)) (r (ix1 l)) := rfl
theorem min_lane (x y : FVec F S16 .f32) (l : Fin 16) : minimumf x y (ix1 l) = min1 (x (ix1 l)) (y (ix1 l)) := rfl
theorem recipV_lane (s : FVec F S16 .f32) (l : Fin 16) : recipV s (ix1 l) = rec1 (s (ix1 l)) := rfl

/-- The place of lane `l` of sixteen entries at offset `o` of a table. -/
theorem unit_emb {n c : Nat} (o : Fin 2 → Nat) (h : ∀ a, o a + S1x16.size a ≤ (⟨2, ![n, c]⟩ : Shape).size a) (j : Fin n) (hj : o 0 = j.val)
    (l : Fin 16) (t : Fin c) (ht : o 1 + l.val = t.val) (u : Fin 1) :
    (Rect.unit (s := ⟨2, ![n, c]⟩) o S1x16.size h).emb (ix2 u l) = ix2 j t := by
  funext a
  refine Fin.ext ?_
  rw [Rect.emb_apply]
  fin_cases a
  · show o 0 + 1 * u.val = j.val
    omega
  · show o 1 + 1 * l.val = t.val
    omega

/-- Lane `l` of sixteen entries loaded from a table. -/
theorem flat_readAt {n c : Nat} {sp : Space} (B : Memref sig .scVector sp ⟨2, ![n, c]⟩ .f32) (f : B.view.ty.Contents (Elt F)) (o : Fin 2 → Nat)
    (h : ∀ a, o a + S1x16.size a ≤ (⟨2, ![n, c]⟩ : Shape).size a) (j : Fin n) (hj : o 0 = j.val) (l : Fin 16) (t : Fin c) (ht : o 1 + l.val = t.val) :
    flat (B.view.readAt (Elt F) (Rect.unit (s := ⟨2, ![n, c]⟩) o S1x16.size h).toLoadRect f) (ix1 l) = B.view.read (Elt F) f (ix2 j t) := by
  refine (shapeCast_1a_a_apply (a := 16) _ shapeCasts_S1x16_S16 l).trans ?_
  rw [View.readAt_apply]
  exact congrArg (B.view.read (Elt F) f) (unit_emb o h j hj l t ht 0)

/-- A table after a store of a row. -/
theorem read_store {n : Nat} {sp : Space} (B : Memref sig .scVector sp ⟨2, ![n, 16]⟩ .f32) (f : B.view.ty.Contents (Elt F)) (j : Fin n)
    (h : ∀ a, (![j.val, 0] : Fin 2 → Nat) a + S1x16.size a ≤ (⟨2, ![n, 16]⟩ : Shape).size a) (w : FVec F S16 .f32) :
    B.view.read (Elt F) ((B.access (Rect.unit (s := ⟨2, ![n, 16]⟩) ![j.val, 0] S1x16.size h)).write (Elt F) f (unflat w) Finset.univ)
      = setRow (B.view.read (Elt F) f) j fun l => w (ix1 l) := by
  funext x
  obtain ⟨a, b, rfl⟩ : ∃ (a : Fin n) (b : Fin 16), x = ix2 a b := ⟨x 0, x 1, eq_ix2 x⟩
  by_cases hx : a = j
  · subst hx
    rw [setRow_same, ← unit_emb ![a.val, 0] h a rfl b b (Nat.zero_add _) 0]
    refine (View.read_slice_write_emb (v := B.view) (Rect.unit (s := ⟨2, ![n, 16]⟩) ![a.val, 0] S1x16.size h) f (unflat w) (Finset.mem_univ _)).trans ?_
    exact shapeCast_a_1a_apply (a := 16) w shapeCasts_S16_S1x16 0 b
  · rw [setRow_other _ _ _ _ _ hx]
    refine View.read_slice_write_of_not_mem (v := B.view) (Rect.unit (s := ⟨2, ![n, 16]⟩) ![j.val, 0] S1x16.size h) f (unflat w) _ fun hm => hx ?_
    obtain ⟨y, -, hy⟩ := Finset.mem_map.mp hm
    have h0 := congrArg (fun z : (⟨2, ![n, 16]⟩ : Shape).Idx => (z 0).val) hy
    have h1 : ((Rect.unit (s := ⟨2, ![n, 16]⟩) ![j.val, 0] S1x16.size h).emb y 0).val = j.val + 1 * (y 0).val := Rect.emb_apply ..
    have : (y 0).val = 0 := Nat.lt_one_iff.mp (y 0).isLt
    refine Fin.ext ((h0.symm.trans h1).trans ?_)
    omega

end Cert.Proof.Tile

end
-- ==== Proof.Base.lean ====
/-
  The program as the launch theorem sees it, the resource algebra, and steps of a vector subcore's program: `Step A B p`
  says that `p`, a program up to its continuation, takes `A` to `B`.
-/
module

public import proofs.«01_k».proof.Proof.TileRows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Scf

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, and the transfers' counters. -/
abbrev UH : Type := URounds (GSem nD τ sig) ℕ
abbrev UU : Type := UH × Counters
/-- The assertions of this proof. -/
abbrev HP (F : FTy → Type) : Type := sProp (MT nD τ sig (HIx 1) (Elt F) ℕ UU ℕ)
abbrev EH : Emb UH (MT nD τ sig (HIx 1) (Elt F) ℕ UU ℕ) := embL

/-- The vector subcore at grid coordinates `i`. -/
abbrev at_ (d : Dev nD) (i : grid0.Coords) : Thread nD τ := V d ((i 0).castLE hcore0) ((i 1).castLE hsub0)

/-- The weakest precondition of a subcore's program. -/
abbrev run (d : Dev nD) (i : grid0.Coords) (p : TP F i PUnit) (Q : PUnit.{1} → HP F) : HP F :=
  wp frame (wpE (defs₀ (F := F)) 𝒱₀ (at_ d i) none) Set.univ p Q

/-- Up to its continuation, the program `p` takes `A` to `B`. -/
def Step (d : Dev nD) (i : grid0.Coords) (A B : HP F) (p : (PUnit.{1} → TP F i PUnit) → TP F i PUnit) : Prop :=
  ∀ (k : PUnit.{1} → TP F i PUnit) (Q : PUnit.{1} → HP F), A ⊢ iprop((B -∗ run d i (k ⟨⟩) Q) -∗ run d i (p k) Q)

section Laws

variable {d : Dev nD} {i : grid0.Coords} {A B C R : HP F} {p q : (PUnit.{1} → TP F i PUnit) → TP F i PUnit}

/-- One step after another. -/
theorem Step.seq (hp : Step d i A B p) (hq : Step d i B C q) : Step d i A C fun k => p fun _ => q k := by
  intro k Q
  iintro HA HK
  iapply (hp _ Q) $$ HA
  iintro HB
  iapply (hq k Q) $$ HB
  iexact HK

/-- What a step leaves alone. -/
theorem Step.frame (hp : Step d i A B p) : Step d i iprop(A ∗ R) iprop(B ∗ R) p := by
  intro k Q
  iintro ⟨HA, HR⟩ HK
  iapply (hp k Q) $$ HA
  iintro HB
  iapply HK
  isplitl [HB] <;> iassumption

/-- Stronger before, weaker after. -/
theorem Step.conseq {A' B' : HP F} (hA : A' ⊢ A) (hB : B ⊢ B') (hp : Step d i A B p) : Step d i A' B' p := by
  intro k Q
  iintro HA HK
  ihave HA := hA $$ HA
  iapply (hp k Q) $$ HA
  iintro HB
  iapply HK
  iapply hB; iexact HB

/-- The steps of a list, a state threaded through. -/
theorem Step.each {β σ : Type} {f : β → (PUnit.{1} → TP F i PUnit) → TP F i PUnit} {S : σ → HP F} {upd : σ → β → σ}
    (hf : ∀ b s, Step d i (S s) (S (upd s b)) (f b)) : ∀ (l : List β) (s : σ), Step d i (S s) (S (l.foldl upd s)) fun k => each f l k ⟨⟩
  | [], s => by intro k Q; rw [List.foldl_nil]; iintro HA HK; iapply HK; iexact HA
  | b :: l, s => (hf b s).seq (Step.each hf l (upd s b))

/-- The steps of a list of distinct entries, the set of those done threaded through. -/
theorem Step.each_nodup {β : Type} [DecidableEq β] {f : β → (PUnit.{1} → TP F i PUnit) → TP F i PUnit} {S : Finset β → HP F}
    (hf : ∀ b D, b ∉ D → Step d i (S D) (S (insert b D)) (f b)) :
    ∀ (l : List β) (D : Finset β), l.Nodup → (∀ b ∈ l, b ∉ D) → Step d i (S D) (S (l.foldl (fun D b => insert b D) D)) fun k => Tile.each f l k ⟨⟩
  | [], s, _, _ => by intro k Q; rw [List.foldl_nil]; iintro HA HK; iapply HK; iexact HA
  | b :: l, D, hl, hD => (hf b D (hD b (List.mem_cons_self ..))).seq
      (Step.each_nodup hf l (insert b D) (List.nodup_cons.mp hl).2 fun b' hb' h => by
        rcases Finset.mem_insert.mp h with rfl | h
        · exact (List.nodup_cons.mp hl).1 hb'
        · exact hD b' (List.mem_cons_of_mem _ hb') h)

end Laws

/-- A buffer of the subcore's, whole, at contents `f`. -/
abbrev pt (d : Dev nD) (i : grid0.Coords) {sp : Space} {s : Shape} {e : EltTy} (B : Memref sig .scVector sp s e) (f : Buf (Elt F) (B.view.loc (at_ d i))) : HP F :=
  iprop(B.view.loc (at_ d i) ↦{fullShare} f)

/-- The contents of the subcore's small buffers: its block of inputs, centers, widths' reciprocals, memberships, pair minima. -/
structure Bufs (F : FTy → Type) where
  x : Tab 4 128 (F .f32)
  c : Tab 28 16 (F .f32)
  r : Tab 28 16 (F .f32)
  f : Tab 28 16 (F .f32)
  p : Tab 49 16 (F .f32)
  q : Tab 49 16 (F .f32)

/-- The small buffers, held at contents `s`. -/
def own (d : Dev nD) (i : grid0.Coords) (s : Bufs F) : HP F :=
  iprop(pt d i xB s.x ∗ pt d i cB s.c ∗ pt d i rB s.r ∗ pt d i fB s.f ∗ pt d i pB s.p ∗ pt d i qB s.q)

/-- One width's row becomes its reciprocals. -/
theorem recip_step (d : Dev nD) (i : grid0.Coords) (s : Bufs F) (j : Fin 28) :
    Step d i (own d i s) (own d i { s with r := setRow s.r j fun l => rec1 (s.r (ix2 j l)) }) (recipStep j) := by
  intro k Q
  have e : (rB.access (row28 j)).write (Elt F) s.r (unflat (recipV (flat (rB.view.readAt (Elt F) (row28 j).toLoadRect s.r)))) Finset.univ
      = setRow s.r j fun l => rec1 (s.r (ix2 j l)) := by
    refine (read_store (F := F) rB s.r j (in28 j) _).trans ?_
    refine congrArg (setRow s.r j) (funext fun l => ?_)
    exact congrArg rec1 (flat_readAt rB s.r _ (in28 j) j rfl l l (Nat.zero_add _))
  unfold own recipStep
  iintro ⟨Hx, Hc, Hr, Hrest⟩ HK
  iapply (wp_load 𝒱₀ (at_ d i) none Set.univ (m := rB) (S := Finset.univ) (Finset.subset_univ _)) $$ Hr; iintro Hr
  iapply (wp_load 𝒱₀ (at_ d i) none Set.univ (m := rB) (S := Finset.univ) (Finset.subset_univ _)) $$ Hr; iintro Hr
  iapply (wp_store 𝒱₀ (at_ d i) none Set.univ (m := rB) (r := row28 j) (Mk := Finset.univ) (S := Finset.univ) (Finset.subset_univ _)) $$ Hr; iintro Hr
  rw [e]
  iapply HK
  isplitl [Hx]; · iexact Hx
  isplitl [Hc]; · iexact Hc
  isplitl [Hr]; · iexact Hr
  iexact Hrest

end Cert.Proof.Tile

end
-- ==== Proof.TileFill.lean ====
/-
  The computed rows: after the setup's divisions the widths' buffer holds their reciprocals, and after a group's computation the
  membership and pair buffers hold what their formulas say of the group's sixteen inputs.
-/
module

public import proofs.«01_k».proof.Proof.Base

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The row and the column of an entry. -/
def fst2 {n c : Nat} (x : (⟨2, ![n, c]⟩ : Shape).Idx) : Fin n := x 0
def snd2 {n c : Nat} (x : (⟨2, ![n, c]⟩ : Shape).Idx) : Fin c := x 1

theorem ix2_fst_snd {n c : Nat} (x : (⟨2, ![n, c]⟩ : Shape).Idx) : ix2 (fst2 x) (snd2 x) = x := (eq_ix2 x).symm

/-- The rows in `D` of one table, the others of another. -/
def mix {n c : Nat} {α : Type} (D : Finset (Fin n)) (W f : Tab n c α) : Tab n c α := fun x => if fst2 x ∈ D then W x else f x

theorem mix_empty {n c : Nat} {α : Type} (W f : Tab n c α) : mix ∅ W f = f := funext fun _ => if_neg (Finset.notMem_empty _)
theorem mix_univ {n c : Nat} {α : Type} (W f : Tab n c α) : mix Finset.univ W f = W := funext fun _ => if_pos (Finset.mem_univ _)
theorem mix_notMem {n c : Nat} {α : Type} (D : Finset (Fin n)) (W f : Tab n c α) (j : Fin n) (l : Fin c) (h : j ∉ D) :
    mix D W f (ix2 j l) = f (ix2 j l) := if_neg h
theorem setRow_mix {n c : Nat} {α : Type} (D : Finset (Fin n)) (W f : Tab n c α) (j : Fin n) (w : Fin c → α) (hw : ∀ l, w l = W (ix2 j l)) :
    setRow (mix D W f) j w = mix (insert j D) W f := by
  funext x
  obtain ⟨a, b, rfl⟩ : ∃ (a : Fin n) (b : Fin c), x = ix2 a b := ⟨x 0, x 1, eq_ix2 x⟩
  by_cases h : a = j
  · subst h
    rw [setRow_same, hw]
    exact (if_pos (Finset.mem_insert_self _ _)).symm
  · rw [setRow_other _ _ _ _ _ h]
    show (if a ∈ D then _ else _) = if a ∈ insert j D then _ else _
    simp only [Finset.mem_insert, h, false_or]

variable (d : Dev nD) (i : grid0.Coords)

/-- The reciprocals of the widths. -/
def recW (r : Tab 28 16 (F .f32)) : Tab 28 16 (F .f32) := fun y => rec1 (r y)

/-- All the widths' rows become their reciprocals. -/
theorem recips_step (s : Bufs F) :
    Step d i (own d i s) (own d i { s with r := recW s.r })
      fun k => each (fun (v : Fin 4) k => each (fun (m : Fin 7) => recipStep (mrow v m)) sevens k ⟨⟩) fours k ⟨⟩ := by
  have h := Step.each_nodup (d := d) (i := i) (f := recipStep) (S := fun D : Finset (Fin 28) => own d i { s with r := mix D (recW s.r) s.r })
    (fun b D hb => by
      have h := recip_step d i { s with r := mix D (recW s.r) s.r } b
      dsimp only at h
      rw [setRow_mix D (recW s.r) s.r b _ fun l => by rw [mix_notMem _ _ _ _ _ hb]; rfl] at h
      exact h)
    (fours.flatMap fun v => sevens.map fun m => mrow v m) ∅ (by decide) (fun _ _ => Finset.notMem_empty _)
  rw [mix_empty, show (fours.flatMap fun v => sevens.map fun m => mrow v m).foldl (fun D b => insert b D) ∅ = (Finset.univ : Finset (Fin 28)) by decide,
    mix_univ] at h
  exact h

/-- The memberships of sixteen inputs of each of the four. -/
def memW (s : Bufs F) (X : Fin 4 → Fin 16 → F .f32) : Tab 28 16 (F .f32) :=
  fun y => mem1 (X ⟨(fst2 y).val / 7, by omega⟩ (snd2 y)) (s.c y) (s.r y)

/-- The minima of every membership of input `u` with every one of input `v`. -/
def pairW (u v : Fin 4) (f : Tab 28 16 (F .f32)) : Tab 49 16 (F .f32) :=
  fun y => min1 (f (ix2 (mrow u ⟨(fst2 y).val / 7, by omega⟩) (snd2 y))) (f (ix2 (mrow v ⟨(fst2 y).val % 7, by omega⟩) (snd2 y)))

theorem mem_step (s : Bufs F) (X : Fin 4 → Fin 16 → F .f32) (v : Fin 4) (m : Fin 7) (x : Vec F S16 .f32) (hx : ∀ l : Fin 16, x (ix1 l) = X v l)
    (D : Finset (Fin 28)) :
    Step d i (own d i { s with f := mix D (memW s X) s.f }) (own d i { s with f := mix (insert (mrow v m) D) (memW s X) s.f }) (memStep x (mrow v m)) := by
  intro k Q
  have e (f : Tab 28 16 (F .f32)) : (fB.access (row28 (mrow v m))).write (Elt F) f (unflat (memV x (flat (cB.view.readAt (Elt F) (row28 (mrow v m)).toLoadRect s.c))
        (flat (rB.view.readAt (Elt F) (row28 (mrow v m)).toLoadRect s.r)))) Finset.univ
      = setRow f (mrow v m) fun l => memW s X (ix2 (mrow v m) l) := by
    refine (read_store (F := F) fB f (mrow v m) (in28 _) _).trans ?_
    refine congrArg (setRow f (mrow v m)) (funext fun l => ?_)
    rw [memV_lane, hx]
    have hv : X ⟨(mrow v m).val / 7, by omega⟩ l = X v l := congrArg (fun u => X u l) (Fin.ext (by show (v.val * 7 + m.val) / 7 = v.val; omega))
    refine Eq.trans ?_ (congrArg (fun y => mem1 y (s.c (ix2 (mrow v m) l)) (s.r (ix2 (mrow v m) l))) hv.symm)
    exact congrArg₂ (mem1 (X v l)) (flat_readAt cB s.c _ (in28 _) (mrow v m) rfl l l (Nat.zero_add _))
      (flat_readAt rB s.r _ (in28 _) (mrow v m) rfl l l (Nat.zero_add _))
  unfold own memStep
  iintro ⟨Hx, Hc, Hr, Hf, Hrest⟩ HK
  iapply (wp_load 𝒱₀ (at_ d i) none Set.univ (m := cB) (S := Finset.univ) (Finset.subset_univ _)) $$ Hc; iintro Hc
  iapply (wp_load 𝒱₀ (at_ d i) none Set.univ (m := rB) (S := Finset.univ) (Finset.subset_univ _)) $$ Hr; iintro Hr
  iapply (wp_load 𝒱₀ (at_ d i) none Set.univ (m := fB) (S := Finset.univ) (Finset.subset_univ _)) $$ Hf; iintro Hf
  iapply (wp_store 𝒱₀ (at_ d i) none Set.univ (m := fB) (r := row28 (mrow v m)) (Mk := Finset.univ) (S := Finset.univ) (Finset.subset_univ _)) $$ Hf; iintro Hf
  rw [e, setRow_mix _ _ _ _ _ fun _ => rfl]
  iapply HK
  isplitl [Hx]; · iexact Hx
  isplitl [Hc]; · iexact Hc
  isplitl [Hr]; · iexact Hr
  isplitl [Hf]; · iexact Hf
  iexact Hrest

/-- The sixteen inputs of group `g`. -/
def grp (s : Bufs F) (g : Fin 8) : Fin 4 → Fin 16 → F .f32 := fun v l => s.x (ix2 v ⟨16 * g.val + l.val, by omega⟩)

theorem memInput_step (s : Bufs F) (g : Fin 8) (o : Fin 4 → Fin 2 → Nat) (ho : ∀ v a, o v a + S1x16.size a ≤ S4x128.size a)
    (hov : ∀ v, o v = ![v.val, 16 * g.val]) (v : Fin 4) (D : Finset (Fin 28)) :
    Step d i (own d i { s with f := mix D (memW s (grp s g)) s.f })
      (own d i { s with f := mix (sevens.foldl (fun D m => insert (mrow v m) D) D) (memW s (grp s g)) s.f }) (memInput o ho v) := by
  intro k Q
  unfold memInput
  have h := Step.each (d := d) (i := i) (S := fun D : Finset (Fin 28) => own d i { s with f := mix D (memW s (grp s g)) s.f })
    (upd := fun D m => insert (mrow v m) D)
    (f := fun m => memStep (flat (xB.view.readAt (Elt F) (Rect.unit (s := S4x128) (o v) S1x16.size (ho v)).toLoadRect s.x)) (mrow v m))
    (fun m D => mem_step d i s (grp s g) v m _ (fun l => flat_readAt xB s.x (o v) (ho v) v (by rw [hov]; rfl) l ⟨16 * g.val + l.val, by omega⟩ (by rw [hov]; rfl)) D)
    sevens D k Q
  unfold own at h ⊢
  iintro ⟨Hx, Hrest⟩ HK
  iapply (wp_load 𝒱₀ (at_ d i) none Set.univ (m := xB) (S := Finset.univ) (Finset.subset_univ _)) $$ Hx; iintro Hx
  iapply h $$ [Hx Hrest]
  · isplitl [Hx]; · iexact Hx
    iexact Hrest
  iexact HK

theorem pair_step (s : Bufs F) (a b : Fin 7) (D : Finset (Fin 49)) :
    Step d i (own d i { s with p := mix D (pairW 0 1 s.f) s.p, q := mix D (pairW 2 3 s.f) s.q })
      (own d i { s with p := mix (insert (prow a b) D) (pairW 0 1 s.f) s.p, q := mix (insert (prow a b) D) (pairW 2 3 s.f) s.q })
      fun k => pairP a b fun _ => pairQ a b k := by
  intro k Q
  have e (B : Memref sig .scVector .vmem S49x16 .f32) (u v : Fin 4) (f : B.view.ty.Contents (Elt F)) :
      B.view.read (Elt F) ((B.access (row49 (prow a b))).write (Elt F) f (unflat (minimumf (flat (fB.view.readAt (Elt F) (row28 (mrow u a)).toLoadRect s.f))
        (flat (fB.view.readAt (Elt F) (row28 (mrow v b)).toLoadRect s.f)))) Finset.univ)
      = setRow (B.view.read (Elt F) f) (prow a b) fun l => pairW u v s.f (ix2 (prow a b) l) := by
    refine (read_store (F := F) B f (prow a b) (in49 _) _).trans ?_
    refine congrArg (setRow (B.view.read (Elt F) f) (prow a b)) (funext fun l => ?_)
    rw [min_lane, flat_readAt fB s.f _ (in28 _) (mrow u a) rfl l l (Nat.zero_add _), flat_readAt fB s.f _ (in28 _) (mrow v b) rfl l l (Nat.zero_add _)]
    have ha : (⟨(prow a b).val / 7, by omega⟩ : Fin 7) = a := Fin.ext (by show (a.val * 7 + b.val) / 7 = a.val; omega)
    have hb : (⟨(prow a b).val % 7, by omega⟩ : Fin 7) = b := Fin.ext (by show (a.val * 7 + b.val) % 7 = b.val; omega)
    refine Eq.trans ?_ (congrArg₂ (fun a b => min1 (s.f (ix2 (mrow u a) l)) (s.f (ix2 (mrow v b) l))) ha.symm hb.symm)
    rfl
  have ep (f : Tab 49 16 (F .f32)) : (pB.access (row49 (prow a b))).write (Elt F) f (unflat (minimumf (flat (fB.view.readAt (Elt F) (row28 (mrow 0 a)).toLoadRect s.f))
        (flat (fB.view.readAt (Elt F) (row28 (mrow 1 b)).toLoadRect s.f)))) Finset.univ
      = setRow f (prow a b) fun l => pairW 0 1 s.f (ix2 (prow a b) l) := e pB 0 1 f
  have eq (f : Tab 49 16 (F .f32)) : (qB.access (row49 (prow a b))).write (Elt F) f (unflat (minimumf (flat (fB.view.readAt (Elt F) (row28 (mrow 2 a)).toLoadRect s.f))
        (flat (fB.view.readAt (Elt F) (row28 (mrow 3 b)).toLoadRect s.f)))) Finset.univ
      = setRow f (prow a b) fun l => pairW 2 3 s.f (ix2 (prow a b) l) := e qB 2 3 f
  unfold own pairP pairQ
  iintro ⟨Hx, Hc, Hr, Hf, Hp, Hq⟩ HK
  dsimp only
  iapply (wp_load 𝒱₀ (at_ d i) none Set.univ (m := fB) (S := Finset.univ) (Finset.subset_univ _)) $$ Hf; iintro Hf
  iapply (wp_load 𝒱₀ (at_ d i) none Set.univ (m := fB) (S := Finset.univ) (Finset.subset_univ _)) $$ Hf; iintro Hf
  iapply (wp_load 𝒱₀ (at_ d i) none Set.univ (m := pB) (S := Finset.univ) (Finset.subset_univ _)) $$ Hp; iintro Hp
  iapply (wp_store 𝒱₀ (at_ d i) none Set.univ (m := pB) (r := row49 (prow a b)) (Mk := Finset.univ) (S := Finset.univ) (Finset.subset_univ _)) $$ Hp; iintro Hp
  iapply (wp_load 𝒱₀ (at_ d i) none Set.univ (m := fB) (S := Finset.univ) (Finset.subset_univ _)) $$ Hf; iintro Hf
  iapply (wp_load 𝒱₀ (at_ d i) none Set.univ (m := fB) (S := Finset.univ) (Finset.subset_univ _)) $$ Hf; iintro Hf
  iapply (wp_load 𝒱₀ (at_ d i) none Set.univ (m := qB) (S := Finset.univ) (Finset.subset_univ _)) $$ Hq; iintro Hq
  iapply (wp_store 𝒱₀ (at_ d i) none Set.univ (m := qB) (r := row49 (prow a b)) (Mk := Finset.univ) (S := Finset.univ) (Finset.subset_univ _)) $$ Hq; iintro Hq
  rw [ep, eq, setRow_mix _ _ _ _ _ fun _ => rfl, setRow_mix _ _ _ _ _ fun _ => rfl]
  iapply HK
  isplitl [Hx]; · iexact Hx
  isplitl [Hc]; · iexact Hc
  isplitl [Hr]; · iexact Hr
  isplitl [Hf]; · iexact Hf
  isplitl [Hp]; · iexact Hp
  iexact Hq

/-- The buffers after a group's computation. -/
def filled (s : Bufs F) (g : Fin 8) : Bufs F :=
  { s with f := memW s (grp s g), p := pairW 0 1 (memW s (grp s g)), q := pairW 2 3 (memW s (grp s g)) }

/-- A group's computation: every membership row and every pair row of the group's sixteen inputs. -/
theorem compute_step (s : Bufs F) (g : Fin 8) (o : Fin 4 → Fin 2 → Nat) (ho : ∀ v a, o v a + S1x16.size a ≤ S4x128.size a)
    (hov : ∀ v, o v = ![v.val, 16 * g.val]) : Step d i (own d i s) (own d i (filled s g)) (compute o ho) := by
  have h1 := Step.each (d := d) (i := i) (S := fun D : Finset (Fin 28) => own d i { s with f := mix D (memW s (grp s g)) s.f })
    (upd := fun D v => sevens.foldl (fun D m => insert (mrow v m) D) D) (f := memInput o ho) (fun v D => memInput_step d i s g o ho hov v D) fours ∅
  rw [mix_empty, show fours.foldl (fun D v => sevens.foldl (fun D m => insert (mrow v m) D) D) ∅ = (Finset.univ : Finset (Fin 28)) by decide, mix_univ] at h1
  let s1 : Bufs F := { s with f := memW s (grp s g) }
  have h2 := Step.each (d := d) (i := i)
    (S := fun D : Finset (Fin 49) => own d i { s1 with p := mix D (pairW 0 1 s1.f) s1.p, q := mix D (pairW 2 3 s1.f) s1.q })
    (upd := fun D a => sevens.foldl (fun D b => insert (prow a b) D) D)
    (f := fun (a : Fin 7) k => each (fun (b : Fin 7) k => pairP a b fun _ => pairQ a b k) sevens k ⟨⟩)
    (fun a D => Step.each (fun b D => pair_step d i s1 a b D) sevens D) sevens ∅
  rw [mix_empty, mix_empty, show sevens.foldl (fun D a => sevens.foldl (fun D b => insert (prow a b) D) D) ∅ = (Finset.univ : Finset (Fin 49)) by decide,
    mix_univ, mix_univ] at h2
  exact h1.seq h2

end Cert.Proof.Tile

end
-- ==== Proof.TileScatter.lean ====
/-
  The scattered weights: after the two loops, entry `n` of a group's buffer is the weight of rule `n % 2401` at the group's
  row `n / 2401`.
-/
module

public import proofs.«01_k».proof.Proof.TileFill

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A group's buffer as a plain function. -/
abbrev Wts (F : FTy → Type) : Type := S38416.Idx → F .f32

/-- The place of an entry. -/
def pos (n : S38416.Idx) : Nat := (n 0).val
theorem pos_lt (n : S38416.Idx) : pos n < 38416 := (n 0).isLt

/-- The weights of a group: each rule's at each of the sixteen rows. -/
def outW (s : Bufs F) : Wts F := fun n =>
  min1 (s.p (ix2 ⟨pos n % 2401 / 49, by omega⟩ ⟨pos n / 2401, by have := pos_lt n; omega⟩))
    (s.q (ix2 ⟨pos n % 49, by omega⟩ ⟨pos n / 2401, by have := pos_lt n; omega⟩))

/-- The first `t` rules' weights of one buffer, the others of another. -/
def upTo (t : Nat) (W f : Wts F) : Wts F := fun n => if pos n % 2401 < t then W n else f n

theorem upTo_zero (W f : Wts F) : upTo 0 W f = f := funext fun _ => if_neg (Nat.not_lt_zero _)
theorem upTo_all (W f : Wts F) : upTo 2401 W f = W := funext fun n => if_pos (Nat.mod_lt _ (by decide))

theorem trips1 : k0_t1_loop.trips = 49 := by decide
theorem trips2 : k0_t2_loop.trips = 49 := by decide

/-- A trip's slot in lane `x`'s row. -/
theorem slot_toNat (k : Fin k0_t1_loop.trips) (l : Fin k0_t2_loop.trips) (x : Fin 16) :
    (slotIdx k l (ix1 x)).toNat = 2401 * x.val + (49 * k.val + l.val) := by
  have hk : k.val < 49 := trips1 ▸ k.isLt
  have hl : l.val < 49 := trips2 ▸ l.isLt
  show ((BitVec.ofNat 32 (0 * 16 + x.val) * 2401#32 + (0#32 + (0#32 + BitVec.ofNat 32 k.val * 1#32) * 1#32) * 49#32)
    + (0#32 + (0#32 + BitVec.ofNat 32 l.val * 1#32) * 1#32)).toNat = _
  simp only [BitVec.toNat_add, BitVec.toNat_mul, BitVec.toNat_ofNat]
  omega

/-- Every slot is in the buffer. -/
theorem slot_chk (k : Fin k0_t1_loop.trips) (l : Fin k0_t2_loop.trips) : k0_chk1 (slotIdx k l) := by
  have hk : k.val < 49 := trips1 ▸ k.isLt
  have hl : l.val < 49 := trips2 ▸ l.isLt
  intro a x
  obtain rfl : a = 0 := Subsingleton.elim _ _
  obtain ⟨y, rfl⟩ : ∃ y : Fin 16, x = ix1 y := ⟨x 0, eq_ix1 x⟩
  show (slotIdx k l (ix1 y)).toNat < 38416
  rw [slot_toNat]
  omega

/-- Sixteen lanes' stores, where each lane's value is the wanted one at its slot. -/
theorem storeIdx_eq (f W : Wts F) (idx : IVec S16 32) (v : FVec F S16 .f32) (h : ∀ a x, ((![idx] : Fin 1 → IVec S16 32) a x).toNat < S38416.size a)
    (hW : ∀ (x : Fin 16) (n : S38416.Idx), pos n = (idx (ix1 x)).toNat → v (ix1 x) = W n) (n : S38416.Idx) :
    (storeIdx (F := F) (e := .f32) f ![idx] v (fun _ => 1#1) false h : Wts F) n = if ∃ x : Fin 16, pos n = (idx (ix1 x)).toNat then W n else f n := by
  have key : ∀ (l : List (Fin 16)) (f : Wts F),
      (l.foldl (fun (g : Wts F) (x : Fin 16) => fun j : S38416.Idx => if (∀ a, (j a).val = (idxAt ![idx] h (ix1 x) a).val) then v (ix1 x) else g j) f) n
        = if ∃ x ∈ l, pos n = (idx (ix1 x)).toNat then W n else f n := by
    intro l
    induction l with
    | nil => intro f; exact (if_neg fun ⟨_, hx, _⟩ => nomatch hx).symm
    | cons x l ih =>
      intro f
      rw [List.foldl_cons, ih]
      have hiff : (∀ a, (n a).val = (idxAt ![idx] h (ix1 x) a).val) ↔ pos n = (idx (ix1 x)).toNat :=
        ⟨fun e => e 0, fun e a => by obtain rfl : a = 0 := Subsingleton.elim _ _; exact e⟩
      by_cases hl : ∃ y ∈ l, pos n = (idx (ix1 y)).toNat
      · rw [if_pos hl]
        obtain ⟨y, hy, e⟩ := hl
        exact (if_pos ⟨y, List.mem_cons_of_mem _ hy, e⟩).symm
      · rw [if_neg hl]
        by_cases hx : pos n = (idx (ix1 x)).toNat
        · exact ((if_pos (hiff.mpr hx)).trans (hW x n hx)).trans (if_pos ⟨x, List.mem_cons_self .., hx⟩).symm
        · refine (if_neg fun e => hx (hiff.mp e)).trans (if_neg ?_).symm
          rintro ⟨y, hy, e⟩
          rcases List.mem_cons.mp hy with rfl | hy
          · exact hx e
          · exact hl ⟨y, hy, e⟩
  have hk := key (List.finRange 16) f
  simp only [List.mem_finRange, true_and] at hk
  refine Eq.trans ?_ hk
  have hl : ∀ x : Fin 16, (Shape.ofLane x : S16.Idx) = ix1 x := fun x => by
    funext a; match a with | ⟨0, _⟩ => rfl
  unfold storeIdx
  refine congrFun (congrArg (fun s => List.foldl s f (List.finRange 16)) ?_) n
  funext g x j
  refine (congrFun (if_pos rfl) j).trans ?_
  by_cases hc : ∀ a, (j a).val = (idxAt ![idx] h (ix1 (n := 16) x) a).val
  · exact (if_pos ((hl x).symm ▸ hc)).trans ((congrArg v (hl x)).trans (if_pos hc).symm)
  · exact (if_neg fun e => hc ((hl x) ▸ e)).trans (if_neg hc).symm

/-- One trip's scatter. -/
theorem storeIdx_slot (s : Bufs F) (f : Wts F) (k : Fin k0_t1_loop.trips) (l : Fin k0_t2_loop.trips) (v : FVec F S16 .f32)
    (h : ∀ a x, ((![slotIdx k l] : Fin 1 → IVec S16 32) a x).toNat < S38416.size a)
    (hv : ∀ x : Fin 16, v (ix1 x) = min1 (s.p (ix2 ⟨k.val, trips1 ▸ k.isLt⟩ x)) (s.q (ix2 ⟨l.val, trips2 ▸ l.isLt⟩ x))) :
    (storeIdx (F := F) (e := .f32) (upTo (49 * k.val + l.val) (outW s) f) ![slotIdx k l] v (fun _ => 1#1) false h : Wts F)
      = upTo (49 * k.val + (l.val + 1)) (outW s) f := by
  have hk : k.val < 49 := trips1 ▸ k.isLt
  have hl : l.val < 49 := trips2 ▸ l.isLt
  funext n
  have hn := pos_lt n
  rw [storeIdx_eq _ (outW s) _ _ _ fun x n e => ?_]
  · unfold upTo
    by_cases hx : ∃ x : Fin 16, pos n = (slotIdx k l (ix1 x)).toNat
    · rw [if_pos hx]
      obtain ⟨x, e⟩ := hx
      rw [slot_toNat] at e
      exact (if_pos (by omega)).symm
    · rw [if_neg hx]
      have hne : pos n % 2401 ≠ 49 * k.val + l.val := fun e => hx ⟨⟨pos n / 2401, by omega⟩, by rw [slot_toNat]; show _ = 2401 * (pos n / 2401) + _; omega⟩
      by_cases hlt : pos n % 2401 < 49 * k.val + l.val
      · rw [if_pos hlt, if_pos (by omega)]
      · rw [if_neg hlt, if_neg (by omega)]
  · rw [hv]
    rw [slot_toNat] at e
    have hx := x.isLt
    have e1 : (⟨pos n % 2401 / 49, by omega⟩ : Fin 49) = ⟨k.val, hk⟩ := Fin.ext (by show pos n % 2401 / 49 = k.val; omega)
    have e2 : (⟨pos n / 2401, by have := pos_lt n; omega⟩ : Fin 16) = x := Fin.ext (by show pos n / 2401 = x.val; omega)
    have e3 : (⟨pos n % 49, by omega⟩ : Fin 49) = ⟨l.val, hl⟩ := Fin.ext (by show pos n % 49 = l.val; omega)
    unfold outW
    rw [e1, e2, e3]

variable (d : Dev nD) (i : grid0.Coords)

/-- A group's buffer, held at weights `g`. -/
def wbuf (B : Memref sig .scVector .vmem S38416 .f32) (g : Wts F) : HP F :=
  iprop(∃ f : Buf (Elt F) (B.view.loc (at_ d i)), ⌜B.view.read (Elt F) f = g⌝ ∗ pt d i B f)

/-- One trip of the inner loop. -/
theorem scatterStep_wp (B : Memref sig .scVector .vmem S38416 .f32) (s : Bufs F) (f : Wts F) (k : Fin k0_t1_loop.trips) (l : Fin k0_t2_loop.trips)
    (x : Vec F S16 .f32) (hx : ∀ y : Fin 16, x (ix1 y) = s.p (ix2 ⟨k.val, trips1 ▸ k.isLt⟩ y)) :
    iprop(own d i s ∗ wbuf d i B (upTo (49 * k.val + l.val) (outW s) f))
      ⊢ run d i (scatterStep B k x l) fun _ => iprop(own d i s ∗ wbuf d i B (upTo (49 * k.val + (l.val + 1)) (outW s) f)) := by
  unfold own wbuf scatterStep
  iintro ⟨⟨Hx, Hc, Hr, Hf, Hp, Hq⟩, %b, %hb, HB⟩
  iapply (wp_load 𝒱₀ (at_ d i) none Set.univ (m := qB) (S := Finset.univ) (Finset.subset_univ _)) $$ Hq; iintro Hq
  iapply (wp_assume 𝒱₀ (at_ d i) none Set.univ (slot_chk k l))
  iapply (wp_load 𝒱₀ (at_ d i) none Set.univ (m := B) (S := Finset.univ) (Finset.subset_univ _)) $$ HB; iintro HB
  iapply (wp_store 𝒱₀ (at_ d i) none Set.univ (m := B) (r := .whole S38416) (Mk := Finset.univ) (S := Finset.univ) (Finset.subset_univ _)) $$ HB; iintro HB
  rw [wp_ret]; imodintro
  isplitl [Hx Hc Hr Hf Hp Hq]
  · isplitl [Hx]; · iexact Hx
    isplitl [Hc]; · iexact Hc
    isplitl [Hr]; · iexact Hr
    isplitl [Hf]; · iexact Hf
    isplitl [Hp]; · iexact Hp
    iexact Hq
  · iexists _
    isplitr
    rotate_left
    · iexact HB
    · ipureintro
      have e0 : B.view.readAt (Elt F) (LoadRect.whole S38416) b = upTo (49 * k.val + l.val) (outW s) f := by
        funext n
        rw [← hb, View.readAt_apply]
        exact congrArg (B.view.read (Elt F) b) (Rect.emb_whole_apply _ n)
      funext n
      refine (congrArg _ (Rect.emb_whole_apply S38416 n).symm).trans ((View.read_slice_write_emb (v := B.view) (Rect.whole S38416) b _ (Finset.mem_univ _)).trans ?_)
      rw [e0]
      refine congrFun (storeIdx_slot s f k l _ _ fun y => ?_) n
      rw [min_lane, hx]
      exact congrArg (min1 _) (flat_readAt qB s.q _ (k0_off6_inb l) ⟨l.val, trips2 ▸ l.isLt⟩ (by rw [k0_off6_eq]; rfl) y y (by rw [k0_off6_eq]; exact Nat.zero_add _))

/-- One trip of the outer loop. -/
theorem scatterRow_wp (B : Memref sig .scVector .vmem S38416 .f32) (s : Bufs F) (f : Wts F) (k : Fin k0_t1_loop.trips) :
    iprop(own d i s ∗ wbuf d i B (upTo (49 * k.val) (outW s) f))
      ⊢ run d i (scatterRow B k) fun _ => iprop(own d i s ∗ wbuf d i B (upTo (49 * (k.val + 1)) (outW s) f)) := by
  unfold scatterRow
  iintro ⟨Ho, HB⟩
  unfold own
  icases Ho with ⟨Hx, Hc, Hr, Hf, Hp, Hq⟩
  iapply (wp_load 𝒱₀ (at_ d i) none Set.univ (m := pB) (S := Finset.univ) (Finset.subset_univ _)) $$ Hp; iintro Hp
  iapply (Scf.wp_for_bind _ _ _ k0_t2_loop.lb k0_t2_loop.ub k0_t2_loop.st k0_t2_ok (⟨⟩ : PUnit.{1}) _
    (fun n _ => iprop(own d i s ∗ wbuf d i B (upTo (49 * k.val + n) (outW s) f)))
    (fun l _ => scatterStep_wp d i B s f k l _ fun y =>
      flat_readAt pB s.p _ (k0_off5_inb k) ⟨k.val, trips1 ▸ k.isLt⟩ (by rw [k0_off5_eq]; rfl) y y (by rw [k0_off5_eq]; exact Nat.zero_add _))) $$ [Hx Hc Hr Hf Hp Hq HB]
  · unfold own
    isplitr [HB]
    · isplitl [Hx]; · iexact Hx
      isplitl [Hc]; · iexact Hc
      isplitl [Hr]; · iexact Hr
      isplitl [Hf]; · iexact Hf
      isplitl [Hp]; · iexact Hp
      iexact Hq
    · iexact HB
  iintro %_ H
  rw [wp_ret]; imodintro
  rw [show Scf.trips k0_t2_loop.lb k0_t2_loop.ub k0_t2_loop.st = 49 from trips2]
  iexact H

/-- Both loops: the buffer comes to hold the group's weights. -/
theorem scatters_step (B : Memref sig .scVector .vmem S38416 .f32) (s : Bufs F) (f : Wts F) :
    Step d i iprop(own d i s ∗ wbuf d i B f) iprop(own d i s ∗ wbuf d i B (outW s)) (scatters B) := by
  intro k Q
  unfold scatters
  iintro H HK
  iapply (Scf.wp_for_bind _ _ _ k0_t1_loop.lb k0_t1_loop.ub k0_t1_loop.st k0_t1_ok (⟨⟩ : PUnit.{1}) _
    (fun n _ => iprop(own d i s ∗ wbuf d i B (upTo (49 * n) (outW s) f)))
    (fun k _ => scatterRow_wp d i B s f k)) $$ [H]
  · rw [Nat.mul_zero, upTo_zero]; iexact H
  iintro %_ H
  rw [show Scf.trips k0_t1_loop.lb k0_t1_loop.ub k0_t1_loop.st = 49 from trips1, upTo_all]
  iapply HK; iexact H

end Cert.Proof.Tile

end
-- ==== Proof.TileCopy.lean ====
/-
  The copies: a copy in and its wait, and a group's copy out in two halves, the start and the wait.
-/
module

public import proofs.«01_k».proof.Proof.TileScatter

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The transfers' counters' place in the algebra. -/
abbrev EC : UEmb Counters (MT nD τ sig (HIx 1) (Elt F) ℕ UU ℕ) := countersEmb

variable (d : Dev nD) (i : grid0.Coords)

/-- What the subcore owes, its waits so far recorded, and the leave to wait for its own copies. -/
def duty (O : CellTallies nD τ sig (HIx 1)) (W : Waits sig (HIx 1)) : HP F :=
  iprop(Transfers.MayWaits (at_ d i) none O ∗ ∃ W', ⌜∀ p ∈ W', p ∈ W ∨ p.2 = none⌝ ∗ owes (at_ d i) O W')

/-- A semaphore of the subcore's, at zero. -/
abbrev sem0 (s : DmaSems sig S_) : HP F := iprop(semVal (at_ d i, SemLoc.dma s.sem) 0)

variable (O : CellTallies nD τ sig (HIx 1)) (W : Waits sig (HIx 1))

/-- The wait for a copy in flight. -/
theorem wait_step {sp sp' : Space} {s s' : Shape} {e e' : EltTy} {κ' : Kind} (sm : DmaSems sig S_) {srcw : Memref sig .scVector sp' s' e'} {dstw : Memref sig κ' sp s e}
    {hsrc : srcw.view.WordExact} {hdst : dstw.view.WordExact} (N : ℕ) (hN : dstw.view.dmaCredit = N) (A : HP F) :
    Step d i iprop(Transfers.Flight EC (at_ d i) (.dma sm.sem) none N A ∗ duty d i O W) iprop(A ∗ sem0 d i sm ∗ duty d i O W)
      (fun k => .op (.waitDma2 sm.sem srcw dstw hsrc hdst) k) := by
  intro k Q
  unfold duty
  iintro ⟨HF, #Hm, %W', %hW', HO⟩ HK
  iapply (Transfers.wp_waitLocalO EC 𝒱₀ (at_ d i) none none hN) $$ [HF HO]
  · isplitl [HF]; · iexact HF
    isplitl [HO]; · iexact HO
    iapply (Transfers.MayWaits.elim (SemLoc.dma sm.sem)); iexact Hm
  iintro ⟨HA, Hs, HO⟩
  iapply HK
  isplitl [HA]; · iexact HA
  isplitl [Hs]; · iexact Hs
  isplitr; · iexact Hm
  iexists _
  isplitr
  rotate_left
  · iexact HO
  · ipureintro
    intro p hp
    rcases Finset.mem_insert.mp hp with rfl | hp
    · exact .inr rfl
    · exact hW' p hp

/-- A copy and its wait. -/
theorem copy_step {sp sp' : Space} {s : Shape} {e : EltTy} (sm : DmaSems sig S_) {src : Memref sig .scVector sp s e} {dst : Memref sig .scVector sp' s e}
    {hsrc : src.view.WordExact} {hdst : dst.view.WordExact} {hsem : DmaTarget.Typed (nD := nD) sp (.dma sm.sem) (.here (p := .scVector ((i 0).castLE hcore0) ((i 1).castLE hsub0)) dst)}
    (hs : 0 < s.numel)
    (q : PosShare TreeShare) (fs : Buf (Elt F) (src.view.loc (at_ d i))) (fd : Buf (Elt F) (dst.view.loc (at_ d i))) :
    Step d i iprop((src.view.loc (at_ d i) ↦[src.view.set]{q} fs) ∗ pt d i dst fd ∗ sem0 d i sm ∗ duty d i O W)
      iprop((src.view.loc (at_ d i) ↦[src.view.set]{q} fs) ∗ pt d i dst (dst.view.write (Elt F) fd (src.view.read (Elt F) fs) Finset.univ) ∗ sem0 d i sm ∗ duty d i O W)
      (fun k => .op (.enqueueDma src (.here dst) (.dma sm.sem) hsrc hdst hsem) fun _ => .op (.waitDma2 sm.sem src dst hsrc hdst) k) := by
  intro k Q
  iintro ⟨Hs, Hd, Hv, HO⟩ HK
  iapply (Transfers.wp_dmaLocal EC 𝒱₀ (at_ d i) none none dst.view.dmaCredit rfl (View.dmaCredit_pos _ hs) (Finset.subset_univ _)) $$ [Hs Hd Hv]
  · isplitl [Hs]; · iexact Hs
    isplitl [Hd]; · iexact Hd
    iexact Hv
  iintro HF
  iapply (wait_step d i O W sm (hsrc := hsrc) (hdst := hdst) _ rfl _ k Q) $$ [HF HO]
  · isplitl [HF]; · iexact HF
    iexact HO
  iintro ⟨⟨Hd, Hs⟩, Hv, HO⟩
  iapply HK
  isplitl [Hs]; · iexact Hs
  isplitl [Hd]; · iexact Hd
  isplitl [Hv]; · iexact Hv
  iexact HO

/-- A whole array's copy into a buffer. -/
theorem wCopy_step (A : Memref sig .scVector .hbm S28x16 .f32) (hA : A.IsWhole) (B : Memref sig .scVector .vmem S28x16 .f32) (hB : B.IsWhole)
    (sm : DmaSems sig S_) (q : PosShare TreeShare) (f : Buf (Elt F) (A.view.loc (at_ d i))) (g : Buf (Elt F) (B.view.loc (at_ d i))) :
    Step d i iprop((A.view.loc (at_ d i) ↦{q} f) ∗ pt d i B g ∗ sem0 d i sm ∗ duty d i O W)
      iprop((A.view.loc (at_ d i) ↦{q} f) ∗ pt d i B (B.view.write (Elt F) g (A.view.read (Elt F) f) Finset.univ) ∗ sem0 d i sm ∗ duty d i O W)
      (wCopy A hA B hB sm) := by
  have h := copy_step d i O W sm (src := A) (dst := B) (hsrc := hA.wordExact) (hdst := hB.wordExact) (hsem := ⟨Or.inl rfl, trivial⟩) (by decide) q f g
  rw [hA.set_eq_univ] at h
  exact h

/-- The place of entry `t` of row `v`, the row taken out as a vector. -/
theorem row_emb {n c : Nat} (o : Fin 2 → Nat) (h : ∀ a, o a + S1x128.size a ≤ (⟨2, ![n, c]⟩ : Shape).size a) (j : Fin n) (hj : o 0 = j.val)
    (l : Fin 128) (t : Fin c) (ht : o 1 + l.val = t.val) (hq : S128.numel = S1x128.numel) :
    (Rect.unit (s := ⟨2, ![n, c]⟩) o S1x128.size h).emb (Shape.reshapeEquiv hq (ix1 l)) = ix2 j t := by
  have e : Shape.reshapeEquiv hq (ix1 l) = (ix2 (0 : Fin 1) l : S1x128.Idx) := Shape.reshapeEquiv_eq_of_rowMajor hq (by
    rw [Shape.rowMajor_val_two, Shape.rowMajor_val_one]
    show 0 * 128 + l.val = l.val
    omega)
  rw [e]
  funext a
  refine Fin.ext ?_
  rw [Rect.emb_apply]
  fin_cases a
  · show o 0 + 1 * 0 = j.val
    omega
  · show o 1 + 1 * l.val = t.val
    omega

/-- A row of a table, as a vector. -/
abbrev rowV {n c : Nat} {sp : Space} (B : Memref sig .scVector sp ⟨2, ![n, c]⟩ .f32) (o : Fin 2 → Nat)
    (h : ∀ a, o a + S1x128.size a ≤ (⟨2, ![n, c]⟩ : Shape).size a) : Memref sig .scVector sp S128 .f32 :=
  (B.slice (Rect.unit (s := ⟨2, ![n, c]⟩) o S1x128.size h) (fun _ => rfl)).squeeze S128 squeezes_S1x128_S128

theorem read_rowV {n c : Nat} {sp : Space} (B : Memref sig .scVector sp ⟨2, ![n, c]⟩ .f32) (o : Fin 2 → Nat)
    (h : ∀ a, o a + S1x128.size a ≤ (⟨2, ![n, c]⟩ : Shape).size a) (j : Fin n) (hj : o 0 = j.val) (l : Fin 128) (t : Fin c) (ht : o 1 + l.val = t.val)
    (f : B.view.ty.Contents (Elt F)) : (rowV B o h).view.read (Elt F) f (ix1 l) = B.view.read (Elt F) f (ix2 j t) :=
  congrArg (B.view.read (Elt F) f) (row_emb o h j hj l t ht squeezes_S1x128_S128.numel_eq)

/-- The subcore's block after a copy into its row `v`. -/
theorem write_rowV (f : Tab 4 128 (F .f32)) (v : Fin 4) (hv : ∀ a, (![v.val, 0] : Fin 2 → Nat) a + S1x128.size a ≤ S4x128.size a) (w : S128.Idx → F .f32) :
    (rowV xB ![v.val, 0] hv).view.write (Elt F) f w Finset.univ = setRow f v fun t => w (ix1 t) := by
  funext x
  obtain ⟨a, b, rfl⟩ : ∃ (a : Fin 4) (b : Fin 128), x = ix2 a b := ⟨x 0, x 1, eq_ix2 x⟩
  by_cases hx : a = v
  · subst hx
    rw [setRow_same]
    have e : (rowV xB ![a.val, 0] hv).view.emb (ix1 b) = (ix2 a b : S4x128.Idx) := row_emb ![a.val, 0] hv a rfl b b (Nat.zero_add _) squeezes_S1x128_S128.numel_eq
    rw [← e]
    exact View.write_emb_of_mem (Val := Elt F) (v := (rowV xB ![a.val, 0] hv).view) f w (Finset.mem_univ _)
  · rw [setRow_other _ _ _ _ _ hx]
    refine View.write_of_not_mem (Val := Elt F) (v := (rowV xB ![v.val, 0] hv).view) f w Finset.univ fun hm => hx ?_
    obtain ⟨y, -, hy⟩ := Finset.mem_map.mp hm
    obtain ⟨l, rfl⟩ : ∃ l : Fin 128, y = ix1 l := ⟨y 0, eq_ix1 y⟩
    have e : (rowV xB ![v.val, 0] hv).view.emb (ix1 l) = (ix2 v l : S4x128.Idx) := row_emb ![v.val, 0] hv v rfl l l (Nat.zero_add _) squeezes_S1x128_S128.numel_eq
    exact (congrArg fst2 (e.symm.trans hy)).symm

/-- One input's copy into the subcore's block: row `v` comes to hold 128 inputs of the array's row `v`, from column `b`. -/
theorem xCopy_step (v : Fin 4) (b : Nat) (hb : b + 128 ≤ 4096) (o : Fin 2 → Nat) (ho : ∀ a, o a + S1x128.size a ≤ S4x4096.size a) (hov : o = ![v.val, b])
    (hv : ∀ a, (![v.val, 0] : Fin 2 → Nat) a + S1x128.size a ≤ S4x128.size a)
    (sm : DmaSems sig S_) (q : PosShare TreeShare) (X : Tab 4 4096 (F .f32)) (f : Tab 4 128 (F .f32)) :
    Step d i iprop((xT.view.loc (at_ d i) ↦{q} (X : Buf (Elt F) (xT.view.loc (at_ d i)))) ∗ pt d i xB f ∗ sem0 d i sm ∗ duty d i O W)
      iprop((xT.view.loc (at_ d i) ↦{q} (X : Buf (Elt F) (xT.view.loc (at_ d i)))) ∗ pt d i xB (setRow f v fun t => X (ix2 v ⟨b + t.val, by omega⟩)) ∗ sem0 d i sm ∗ duty d i O W)
      (xCopy v o ho hv sm) := by
  subst hov
  have h := copy_step d i O W sm (src := rowV xT ![v.val, b] ho) (dst := rowV xB ![v.val, 0] hv) (hsrc := (View.wordExact_bits rfl).reshape _ _)
    (hdst := (View.wordExact_bits rfl).reshape _ _) (hsem := ⟨Or.inl rfl, trivial⟩) (by decide) q X f
  rw [write_rowV, show (fun t : Fin 128 => (rowV xT ![v.val, b] ho).view.read (Elt F) X (ix1 t)) = fun t => X (ix2 v ⟨b + t.val, by omega⟩)
    from funext fun t => read_rowV xT _ ho v rfl t ⟨b + t.val, by omega⟩ rfl X] at h
  intro k Q
  have h := h k Q
  iintro ⟨HX, Hx, Hs, HO⟩ HK
  ihave HX := (pointsTo_split_subset (Finset.subset_univ (rowV xT ![v.val, b] ho).view.set)).1 $$ HX
  icases HX with ⟨HX, HX'⟩
  iapply h $$ [HX Hx Hs HO]
  · isplitl [HX]; · iexact HX
    isplitl [Hx]; · iexact Hx
    isplitl [Hs]; · iexact Hs
    iexact HO
  iintro ⟨HX, Hx, Hs, HO⟩
  iapply HK
  isplitl [HX HX']
  · iapply (pointsTo_split_subset (Finset.subset_univ (rowV xT ![v.val, b] ho).view.set)).2
    isplitl [HX]; · iexact HX
    iexact HX'
  isplitl [Hx]; · iexact Hx
  isplitl [Hs]; · iexact Hs
  iexact HO

end Cert.Proof.Tile

end
-- ==== Proof.TileOut.lean ====
/-
  The copies out: the result is 256 windows of 38416 entries, one a group; a group's buffer leaves for its window and comes back.
-/
module

public import proofs.«01_k».proof.Proof.TileCopy

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The result as a plain function. -/
abbrev Res (F : FTy → Type) : Type := S9834496.Idx → F .f32

/-- The `q`-th window of the result. -/
def win (q : Nat) : Finset S9834496.Idx := Finset.univ.filter fun n => (n 0).val / 38416 = q

/-- Entry `x` of window `q`. -/
def inWin (q : Nat) (hq : q < 256) (x : S38416.Idx) : S9834496.Idx := ix1 ⟨38416 * q + pos x, by have := pos_lt x; omega⟩

/-- The window a copy out goes to. -/
abbrev winV (w : Fin 1 → Nat) (hw : ∀ a, w a + S38416.size a ≤ S9834496.size a) : Memref sig .scVector .hbm S38416 .f32 :=
  oH.slice (Rect.unit (s := S9834496) w S38416.size hw) (fun _ => rfl)

theorem winV_emb (q : Nat) (hq : q < 256) (hw : ∀ a, (![38416 * q] : Fin 1 → Nat) a + S38416.size a ≤ S9834496.size a) (x : S38416.Idx) :
    (winV ![38416 * q] hw).view.emb x = inWin q hq x := by
  refine funext fun (a : Fin 1) => ?_
  obtain rfl : a = 0 := Subsingleton.elim _ _
  refine Fin.ext ?_
  show 38416 * q + 1 * (x 0).val = 38416 * q + (x 0).val
  omega

theorem winV_set (q : Nat) (hq : q < 256) (hw : ∀ a, (![38416 * q] : Fin 1 → Nat) a + S38416.size a ≤ S9834496.size a) :
    (winV ![38416 * q] hw).view.set = win q := by
  ext n
  unfold win
  rw [Finset.mem_filter]
  constructor
  · intro h
    obtain ⟨x, -, rfl⟩ := Finset.mem_map.mp h
    refine ⟨Finset.mem_univ _, ?_⟩
    rw [winV_emb q hq hw x]
    have := pos_lt x
    show (38416 * q + pos x) / 38416 = q
    omega
  · rintro ⟨-, h⟩
    refine Finset.mem_map.mpr ⟨ix1 ⟨(n 0).val % 38416, by omega⟩, Finset.mem_univ _, ?_⟩
    rw [winV_emb q hq hw]
    refine funext fun (a : Fin 1) => ?_
    obtain rfl : a = 0 := Subsingleton.elim _ _
    refine Fin.ext ?_
    show 38416 * q + (n 0).val % 38416 = (n 0).val
    omega

/-- A window after a copy. -/
theorem write_winV (q : Nat) (hq : q < 256) (hw : ∀ a, (![38416 * q] : Fin 1 → Nat) a + S38416.size a ≤ S9834496.size a) (f R : Res F) (g : Wts F)
    (hg : ∀ x, g x = R (inWin q hq x)) : ∀ n ∈ win q, (winV ![38416 * q] hw).view.write (Elt F) f g Finset.univ n = R n := by
  intro n hn
  rw [← winV_set q hq hw] at hn
  obtain ⟨x, -, rfl⟩ := Finset.mem_map.mp hn
  refine (View.write_emb_of_mem (Val := Elt F) (v := (winV ![38416 * q] hw).view) f g (Finset.mem_univ x)).trans ?_
  refine (hg x).trans (congrArg R (winV_emb q hq hw x).symm)

variable (d : Dev nD) (i : grid0.Coords) (O : CellTallies nD τ sig (HIx 1)) (W : Waits sig (HIx 1))

/-- A window of the result, held at contents `R`. -/
abbrev winAt (q : Nat) (R : Res F) : HP F := iprop(oH.view.loc (at_ d i) ↦[win q]{fullShare} (R : Buf (Elt F) (oH.view.loc (at_ d i))))

/-- The amount a copy out signals. -/
abbrev amt : Nat := (winV ![0] inb_S9834496_S38416_0).view.dmaCredit

/-- Buffer `B` on its way to window `q` of the result, where its contents make the result's `R`. -/
def flying (B : Memref sig .scVector .vmem S38416 .f32) (s : DmaSems sig S_) (q : Nat) (R : Res F) : HP F :=
  Transfers.Flight EC (at_ d i) (.dma s.sem) none amt iprop((∃ g, wbuf d i B g) ∗ winAt d i q R)

/-- The start of a copy out. -/
theorem send_step (B : Memref sig .scVector .vmem S38416 .f32) (hB : B.IsWhole) (s : DmaSems sig S_) (q : Nat) (hq : q < 256) (w : Fin 1 → Nat)
    (hw : ∀ a, w a + S38416.size a ≤ S9834496.size a) (hwq : w = ![38416 * q]) (f R : Res F) (g : Wts F) (hg : ∀ x, g x = R (inWin q hq x)) :
    Step d i iprop(wbuf d i B g ∗ winAt d i q f ∗ sem0 d i s) (flying d i B s q R) (send B hB s w hw) := by
  subst hwq
  intro k Q
  unfold wbuf send
  iintro ⟨⟨%b, %hb, HB⟩, Hf, Hs⟩ HK
  have h := Transfers.wp_dmaLocal (defs := defs₀ (F := F)) (Q := Q) (k := k) EC 𝒱₀ (at_ d i) none (src := B) (via := .same) (dst := winV ![38416 * q] hw) (sm := .dma s.sem)
    (hsrc := hB.wordExact) (hdst := View.wordExact_bits rfl) (hsem := ⟨Or.inl rfl, trivial⟩) (q := fullShare) (fs := b) (fd := f)
    none amt rfl (View.dmaCredit_pos _ (by decide)) (Finset.Subset.refl _)
  rw [hB.set_eq_univ, winV_set q hq hw] at h
  iapply h $$ [HB Hf Hs]
  · isplitl [HB]; · iexact HB
    isplitl [Hf]; · iexact Hf
    iexact Hs
  iintro HF
  iapply HK
  unfold flying
  iapply (Transfers.Flight_mono EC (at_ d i) (D' := iprop((∃ g, wbuf d i B g) ∗ winAt d i q R)) ?_) $$ HF
  rw [pointsTo_congr (write_winV q hq hw f R (B.view.read (Elt F) b) fun x => by rw [hb]; exact hg x)]
  iintro ⟨Hw, HB⟩
  isplitl [HB]
  · iexists _
    unfold wbuf
    iexists b
    isplitr
    · ipureintro; rfl
    iexact HB
  iexact Hw

/-- The wait for a copy out. -/
theorem drain_step (B : Memref sig .scVector .vmem S38416 .f32) (hB : B.IsWhole) (s : DmaSems sig S_) (q : Nat) (R : Res F) :
    Step d i iprop(flying d i B s q R ∗ duty d i O W) iprop((((∃ g, wbuf d i B g) ∗ winAt d i q R) ∗ sem0 d i s ∗ duty d i O W)) (drain B hB s) :=
  wait_step d i O W s amt rfl _

end Cert.Proof.Tile

end
-- ==== Proof.Spec.lean ====
/-
  What the result holds, and that a group's buffer holds its window of it.
-/
module

public import proofs.«01_k».proof.Proof.TileOut

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The weight of membership `m` of input `v` at a row, from the inputs, the centers and the widths. -/
def wt (X : Tab 4 4096 (F .f32)) (C Sg : Tab 28 16 (F .f32)) (v : Fin 4) (m : Fin 7) (row : Fin 4096) : F .f32 :=
  mem1 (X (ix2 v row)) (C (ix2 (mrow v m) ⟨row.val % 16, by omega⟩)) (rec1 (Sg (ix2 (mrow v m) ⟨row.val % 16, by omega⟩)))

/-- Rule `r`'s weight at a row: the least of its four memberships'. -/
def ruleW (X : Tab 4 4096 (F .f32)) (C Sg : Tab 28 16 (F .f32)) (row : Fin 4096) (r : Fin 2401) : F .f32 :=
  min1 (min1 (wt X C Sg 0 ⟨r.val / 49 / 7, by omega⟩ row) (wt X C Sg 1 ⟨r.val / 49 % 7, by omega⟩ row))
    (min1 (wt X C Sg 2 ⟨r.val % 49 / 7, by omega⟩ row) (wt X C Sg 3 ⟨r.val % 49 % 7, by omega⟩ row))

/-- The result: every rule's weight at every row, row after row. -/
def result (X : Tab 4 4096 (F .f32)) (C Sg : Tab 28 16 (F .f32)) : Res F := fun n =>
  ruleW X C Sg ⟨(n 0).val / 2401, by have : (n 0).val < 9834496 := (n 0).isLt; omega⟩ ⟨(n 0).val % 2401, Nat.mod_lt _ (by decide)⟩

/-- The first of the eight windows of the subcore at `i`. -/
def wq (i : grid0.Coords) : Nat := 16 * (i 1).val + 8 * (i 0).val

theorem wq_le (i : grid0.Coords) : wq i + 8 ≤ 256 := by
  have h0 : (i 0).val < 2 := (i 0).isLt
  have h1 : (i 1).val < 16 := (i 1).isLt
  unfold wq; omega

/-- The subcore's 128 inputs of each of the four. -/
def blk (X : Tab 4 4096 (F .f32)) (i : grid0.Coords) : Tab 4 128 (F .f32) :=
  fun y => X (ix2 (fst2 y) ⟨16 * wq i + (snd2 y).val, by have := wq_le i; omega⟩)

/-- The small buffers hold the subcore's inputs, the centers, and the widths' reciprocals. -/
def Good (X : Tab 4 4096 (F .f32)) (C Sg : Tab 28 16 (F .f32)) (i : grid0.Coords) (s : Bufs F) : Prop :=
  s.x = blk X i ∧ s.c = C ∧ s.r = recW Sg

/-- A membership computed is a membership wanted. -/
theorem memW_wt {X : Tab 4 4096 (F .f32)} {C Sg : Tab 28 16 (F .f32)} {i : grid0.Coords} {s : Bufs F} (hs : Good X C Sg i s) (g : Fin 8)
    (v : Fin 4) (m : Fin 7) (l : Fin 16) (row : Fin 4096) (hrow : row.val = 16 * (wq i + g.val) + l.val) :
    memW s (grp s g) (ix2 (mrow v m) l) = wt X C Sg v m row := by
  obtain ⟨hx, hc, hr⟩ := hs
  have e1 : (⟨(mrow v m).val / 7, by omega⟩ : Fin 4) = v := Fin.ext (by show (v.val * 7 + m.val) / 7 = v.val; omega)
  have e2 : grp s g v l = X (ix2 v row) := by
    unfold grp
    rw [hx]
    exact congrArg (fun t => X (ix2 v t)) (Fin.ext (by show 16 * wq i + (16 * g.val + l.val) = row.val; omega))
  have e3 : l = (⟨row.val % 16, by omega⟩ : Fin 16) := Fin.ext (by show l.val = row.val % 16; omega)
  unfold wt
  rw [← e3]
  show mem1 (grp s g ⟨(mrow v m).val / 7, _⟩ l) (s.c (ix2 (mrow v m) l)) (s.r (ix2 (mrow v m) l)) = _
  rw [e1, e2, hc, hr]
  rfl

/-- A group's weights are its window of the result. -/
theorem group_out {X : Tab 4 4096 (F .f32)} {C Sg : Tab 28 16 (F .f32)} {i : grid0.Coords} {s : Bufs F} (hs : Good X C Sg i s) (g : Fin 8)
    (hq : wq i + g.val < 256) (x : S38416.Idx) : outW (filled s g) x = result X C Sg (inWin (wq i + g.val) hq x) := by
  have hx := pos_lt x
  have hp : pos x / 2401 < 16 := by omega
  have hrow : 38416 * (wq i + g.val) + pos x = 2401 * (16 * (wq i + g.val)) + pos x := by omega
  unfold result outW filled pairW
  dsimp only
  have er : (⟨(inWin (wq i + g.val) hq x 0).val % 2401, Nat.mod_lt _ (by decide)⟩ : Fin 2401) = ⟨pos x % 2401, Nat.mod_lt _ (by decide)⟩ :=
    Fin.ext (by show (38416 * (wq i + g.val) + pos x) % 2401 = pos x % 2401; omega)
  rw [er]
  unfold ruleW
  dsimp only
  have em : pos x % 2401 % 49 = pos x % 49 := by omega
  have key (v : Fin 4) (m m' : Fin 7) (hm : m.val = m'.val) (row : Fin 4096) (hr : row.val = (38416 * (wq i + g.val) + pos x) / 2401) :
      memW s (grp s g) (ix2 (mrow v m) ⟨pos x / 2401, hp⟩) = wt X C Sg v m' row := by
    obtain rfl := Fin.ext hm
    exact memW_wt hs g v m _ row (by rw [hr]; show _ = 16 * (wq i + g.val) + pos x / 2401; omega)
  exact congrArg₂ min1 (congrArg₂ min1 (key 0 _ _ rfl _ rfl) (key 1 _ _ rfl _ rfl))
    (congrArg₂ min1 (key 2 _ _ (by show pos x % 49 / 7 = pos x % 2401 % 49 / 7; omega) _ rfl) (key 3 _ _ (by show pos x % 49 % 7 = pos x % 2401 % 49 % 7; omega) _ rfl))

end Cert.Proof.Tile

end
-- ==== Proof.TileTrip.lean ====
/-
  One trip of the kernel's loop over pairs of groups is the compact program's: two waits, two fills.
-/
module

public import proofs.«01_k».proof.Proof.Tile

@[expose] public section

noncomputable section

namespace Cert.Proof.Tile

open Cert.KernelIdeal Cert.KernelIdeal.Gen
open Idealize.ShloMosaic Idealize.SL.Sem

variable {F : FTy → Type} [FloatOps F]

abbrev offA (t : Fin k0_t5_loop.trips) : Fin 4 → Fin 2 → Nat := ![k0_off10 t, k0_off11 t, k0_off12 t, k0_off13 t]
abbrev offB (t : Fin k0_t5_loop.trips) : Fin 4 → Fin 2 → Nat := ![k0_off17 t, k0_off18 t, k0_off19 t, k0_off20 t]

theorem offA_inb (t : Fin k0_t5_loop.trips) : ∀ v a, offA t v a + S1x16.size a ≤ S4x128.size a := by
  intro v; fin_cases v; exacts [k0_off10_inb t, k0_off11_inb t, k0_off12_inb t, k0_off13_inb t]
theorem offB_inb (t : Fin k0_t5_loop.trips) : ∀ v a, offB t v a + S1x16.size a ≤ S4x128.size a := by
  intro v; fin_cases v; exacts [k0_off17_inb t, k0_off18_inb t, k0_off19_inb t, k0_off20_inb t]

set_option maxHeartbeats 0 in
set_option maxRecDepth 1000000 in
theorem part80_eq (i : grid0.Coords) (r0 r1 r2 r3 r4 r5 : DmaSems sig S_) (v2 : BitVec 32) (t : Fin k0_t5_loop.trips) :
    k0_part80 (F := F) i xT (Memref.isWhole_whole _) cH (Memref.isWhole_whole _) sH (Memref.isWhole_whole _) oH (Memref.isWhole_whole _)
      xB (Memref.isWhole_whole _) cB (Memref.isWhole_whole _) rB (Memref.isWhole_whole _) fB (Memref.isWhole_whole _)
      pB (Memref.isWhole_whole _) qB (Memref.isWhole_whole _) wA (Memref.isWhole_whole _) wB (Memref.isWhole_whole _) cc0_scratch8 cc0_scratch9 r0 r1 r2 r3 r4 r5
      v2 laneOff 1#32 1#32 t
    = drain wA (Memref.isWhole_whole _) cc0_scratch8 fun _ => drain wB (Memref.isWhole_whole _) cc0_scratch9 fun _ =>
        compute (offA t) (offA_inb t) fun _ => scatters wA fun _ => send wA (Memref.isWhole_whole _) cc0_scratch8 (k0_off16 i t) (k0_off16_inb i t) fun _ =>
        compute (offB t) (offB_inb t) fun _ => scatters wB fun _ => send wB (Memref.isWhole_whole _) cc0_scratch9 (k0_off23 i t) (k0_off23_inb i t) .ret := by
  refine Eq.trans (b := drain wA (Memref.isWhole_whole _) cc0_scratch8 fun _ => drain wB (Memref.isWhole_whole _) cc0_scratch9 fun _ =>
     compute (offA t) (offA_inb t) _) rfl ?_
  refine congrArg (fun R => drain wA (Memref.isWhole_whole _) cc0_scratch8 fun _ => drain wB (Memref.isWhole_whole _) cc0_scratch9 fun _ =>
    compute (offA t) (offA_inb t) R) ?_
  funext _
  refine Eq.trans (b := Prog.bind (Prog.bind (Prog.bind (Scf.Loop.for k0_t1_loop k0_t1_ok ⟨⟩ fun k _ => scatterRow wA k) _) _) _) rfl ?_
  rw [bind_bind, bind_bind]
  refine congrArg (Prog.bind _) ?_
  funext _
  refine Eq.trans (b := send wA (Memref.isWhole_whole _) cc0_scratch8 (k0_off16 i t) (k0_off16_inb i t) fun _ =>
        compute (offB t) (offB_inb t) _) rfl ?_
  refine congrArg (fun R => send wA (Memref.isWhole_whole _) cc0_scratch8 (k0_off16 i t) (k0_off16_inb i t) fun _ =>
        compute (offB t) (offB_inb t) R) ?_
  funext _
  rfl

end Cert.Proof.Tile

end
-- ==== Proof.TileBody.lean ====
/-
  A vector subcore's whole body is the compact program: six copies in, the widths' reciprocals, two fills, the loop of trips
  of `part80_eq`, two waits.
-/
module

public import proofs.«01_k».proof.Proof.TileTrip

@[expose] public section

noncomputable section

namespace Cert.Proof.Tile

open Cert.KernelIdeal Cert.KernelIdeal.Gen
open Idealize.ShloMosaic Idealize.SL.Sem

variable {F : FTy → Type} [FloatOps F]

/-- The prologue's offsets into the subcore's block of inputs: group `g / 16`. -/
abbrev offs (g : Nat) : Fin 4 → Fin 2 → Nat := fun v => ![v.val, g]
theorem offs_inb (g : Nat) (hg : g + 16 ≤ 128) : ∀ v a, offs g v a + S1x16.size a ≤ S4x128.size a := by
  intro v a; fin_cases a
  · exact v.isLt
  · exact hg

/-- One trip of the loop over pairs of groups. -/
def trip (i : grid0.Coords) (t : Fin k0_t5_loop.trips) : TP F i PUnit :=
  drain wA (Memref.isWhole_whole _) cc0_scratch8 fun _ => drain wB (Memref.isWhole_whole _) cc0_scratch9 fun _ =>
    compute (offA t) (offA_inb t) fun _ => scatters wA fun _ => send wA (Memref.isWhole_whole _) cc0_scratch8 (k0_off16 i t) (k0_off16_inb i t) fun _ =>
    compute (offB t) (offB_inb t) fun _ => scatters wB fun _ => send wB (Memref.isWhole_whole _) cc0_scratch9 (k0_off23 i t) (k0_off23_inb i t) .ret

/-- The six copies in and the reciprocals, then `k`. -/
def setup (i : grid0.Coords) (k : PUnit.{1} → TP F i PUnit) : TP F i PUnit :=
  xCopy 0 (k0_off1 i) (k0_off1_inb i) (in4 0) cc0_scoped0 fun _ =>
  xCopy 1 (k0_off2 i) (k0_off2_inb i) (in4 1) cc0_scoped1 fun _ =>
  xCopy 2 (k0_off3 i) (k0_off3_inb i) (in4 2) cc0_scoped2 fun _ =>
  xCopy 3 (k0_off4 i) (k0_off4_inb i) (in4 3) cc0_scoped3 fun _ =>
  wCopy cH (Memref.isWhole_whole _) cB (Memref.isWhole_whole _) cc0_scoped4 fun _ =>
  wCopy sH (Memref.isWhole_whole _) rB (Memref.isWhole_whole _) cc0_scoped5 fun _ =>
  each (fun (v : Fin 4) k => each (fun (m : Fin 7) => recipStep (mrow v m)) sevens k ⟨⟩) fours k ⟨⟩

/-- The whole body. -/
def body (i : grid0.Coords) : TP F i PUnit :=
  setup i fun _ =>
  compute (offs 0) (offs_inb 0 (by decide)) fun _ => scatters wA fun _ =>
  send wA (Memref.isWhole_whole _) cc0_scratch8 (k0_off7 i 0#32) (k0_off7_inb i 0) fun _ =>
  compute (offs 16) (offs_inb 16 (by decide)) fun _ => scatters wB fun _ =>
  send wB (Memref.isWhole_whole _) cc0_scratch9 (k0_off7 i 16#32) (k0_off7_inb i 1) fun _ =>
  (Scf.Loop.for k0_t5_loop k0_t5_ok (⟨⟩ : PUnit.{1}) fun t _ => ((trip i t).bind fun _ => .ret ⟨⟩ : TP F i PUnit)).bind fun _ =>
  drain wA (Memref.isWhole_whole _) cc0_scratch8 fun _ => drain wB (Memref.isWhole_whole _) cc0_scratch9 fun _ => .ret ⟨⟩

set_option maxHeartbeats 0 in
set_option maxRecDepth 1000000 in
theorem body_eq (i : grid0.Coords) :
    cc0__body (F := F) i xT (Memref.isWhole_whole _) cH (Memref.isWhole_whole _) sH (Memref.isWhole_whole _) oH (Memref.isWhole_whole _)
      xB (Memref.isWhole_whole _) cB (Memref.isWhole_whole _) rB (Memref.isWhole_whole _) fB (Memref.isWhole_whole _)
      pB (Memref.isWhole_whole _) qB (Memref.isWhole_whole _) wA (Memref.isWhole_whole _) wB (Memref.isWhole_whole _) cc0_scratch8 cc0_scratch9
      cc0_scoped0 cc0_scoped1 cc0_scoped2 cc0_scoped3 cc0_scoped4 cc0_scoped5
    = body (F := F) i := by
  refine Eq.trans (b := setup (F := F) i fun _ => compute (offs 0) (offs_inb 0 (by decide)) _) rfl ?_
  refine congrArg (fun R => setup (F := F) i fun _ => compute (offs 0) (offs_inb 0 (by decide)) R) ?_
  funext _
  refine Eq.trans (b := Prog.bind (Prog.bind (Prog.bind (Scf.Loop.for k0_t1_loop k0_t1_ok ⟨⟩ fun k _ => scatterRow wA k) _) _) _) rfl ?_
  rw [bind_bind, bind_bind]
  refine congrArg (Prog.bind _) ?_
  funext _
  refine Eq.trans (b := send wA (Memref.isWhole_whole _) cc0_scratch8 (k0_off7 i 0#32) (k0_off7_inb i 0) fun _ =>
        compute (offs 16) (offs_inb 16 (by decide)) _) rfl ?_
  refine congrArg (fun R => send wA (Memref.isWhole_whole _) cc0_scratch8 (k0_off7 i 0#32) (k0_off7_inb i 0) fun _ =>
        compute (offs 16) (offs_inb 16 (by decide)) R) ?_
  funext _
  refine Eq.trans (b := Prog.bind (Prog.bind (Scf.Loop.for k0_t1_loop k0_t1_ok ⟨⟩ fun k _ => scatterRow wB k) _) _) rfl ?_
  rw [bind_bind]
  refine congrArg (Prog.bind _) ?_
  funext _
  refine congrArg (Prog.op _) ?_
  funext _
  refine Eq.trans (b := Prog.bind (Scf.Loop.for k0_t5_loop k0_t5_ok (⟨⟩ : PUnit.{1}) fun t _ => Prog.bind (k0_part80 (F := F) i xT (Memref.isWhole_whole _) cH (Memref.isWhole_whole _) sH (Memref.isWhole_whole _) oH (Memref.isWhole_whole _)
      xB (Memref.isWhole_whole _) cB (Memref.isWhole_whole _) rB (Memref.isWhole_whole _) fB (Memref.isWhole_whole _)
      pB (Memref.isWhole_whole _) qB (Memref.isWhole_whole _) wA (Memref.isWhole_whole _) wB (Memref.isWhole_whole _) cc0_scratch8 cc0_scratch9
      cc0_scoped0 cc0_scoped1 cc0_scoped2 cc0_scoped3 cc0_scoped4 cc0_scoped5
      (Scalar.muli (Scalar.addi (Scalar.muli (BitVec.ofNat 32 (i 1).val) 2#32) (BitVec.ofNat 32 (i 0).val)) 128#32) laneOff 1#32 1#32 t) fun _ => (.ret ⟨⟩ : TP F i PUnit)) fun _ =>
      drain wA (Memref.isWhole_whole _) cc0_scratch8 fun _ => drain wB (Memref.isWhole_whole _) cc0_scratch9 fun _ => .ret ⟨⟩) rfl ?_
  simp only [part80_eq]
  rfl

end Cert.Proof.Tile

end
-- ==== Proof.TileRun.lean ====
/-
  A vector subcore's run: from its inputs, its eight windows and its own buffers and semaphores, its whole body leaves its eight
  windows of the result written.
-/
module

public import proofs.«01_k».proof.Proof.Spec
public import proofs.«01_k».proof.Proof.TileBody

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (d : Dev nD) (i : grid0.Coords) (O : CellTallies nD τ sig (HIx 1)) (W : Waits sig (HIx 1))
  (X : Tab 4 4096 (F .f32)) (C Sg : Tab 28 16 (F .f32))

/-- The small buffers, holding what a group's computation reads. -/
def mine : HP F := iprop(∃ s : Bufs F, ⌜Good X C Sg i s⌝ ∗ own d i s)
/-- A group's buffer, at whatever weights. -/
def anyW (B : Memref sig .scVector .vmem S38416 .f32) : HP F := iprop(∃ g, wbuf d i B g)
/-- A window of the subcore's not yet written, and one written. -/
def todo (g : Nat) : HP F := iprop(∃ f : Res F, winAt d i (wq i + g) f)
def done (g : Nat) : HP F := winAt d i (wq i + g) (result X C Sg)
/-- A buffer on its way to the subcore's window `g`. -/
def away (B : Memref sig .scVector .vmem S38416 .f32) (s : DmaSems sig S_) (g : Nat) : HP F := flying d i B s (wq i + g) (result X C Sg)

/-- A group: computed, scattered, and sent. -/
theorem group_step (B : Memref sig .scVector .vmem S38416 .f32) (hB : B.IsWhole) (s : DmaSems sig S_) (g : Fin 8) (o : Fin 4 → Fin 2 → Nat)
    (ho : ∀ v a, o v a + S1x16.size a ≤ S4x128.size a) (hov : ∀ v, o v = ![v.val, 16 * g.val]) (w : Fin 1 → Nat)
    (hw : ∀ a, w a + S38416.size a ≤ S9834496.size a) (hwq : w = ![38416 * (wq i + g.val)]) :
    Step d i iprop(mine d i X C Sg ∗ anyW d i B ∗ todo d i g.val ∗ sem0 d i s) iprop(mine d i X C Sg ∗ away d i X C Sg B s g.val)
      (fun k => compute o ho fun _ => scatters B fun _ => send B hB s w hw k) := by
  intro k Q
  unfold mine anyW todo away
  iintro ⟨⟨%st, %hst, Hown⟩, ⟨%b, HB⟩, ⟨%f, Hw⟩, Hs⟩ HK
  iapply (compute_step d i st g o ho hov _ Q) $$ Hown
  iintro Hown
  iapply (scatters_step d i B (filled st g) b _ Q) $$ [Hown HB]
  · isplitl [Hown]; · iexact Hown
    iexact HB
  iintro ⟨Hown, HB⟩
  have hq : wq i + g.val < 256 := by have := wq_le i; omega
  iapply (send_step d i B hB s (wq i + g.val) hq w hw hwq f (result X C Sg) (outW (filled st g)) (group_out hst g hq) k Q) $$ [HB Hw Hs]
  · isplitl [HB]; · iexact HB
    isplitl [Hw]; · iexact Hw
    iexact Hs
  iintro HF
  iapply HK
  isplitl [Hown]
  · iexists (filled st g)
    isplitr
    · ipureintro; exact hst
    iexact Hown
  iexact HF

theorem trips5 : k0_t5_loop.trips = 3 := by decide

/-- The state between trips: two groups on their way. -/
def mid (n : Nat) : HP F := iprop(mine d i X C Sg ∗ away d i X C Sg wA cc0_scratch8 (2 * n) ∗ away d i X C Sg wB cc0_scratch9 (2 * n + 1) ∗ duty d i O W)

/-- A trip: two groups arrive and the next two leave. -/
theorem trip_wp (t : Fin k0_t5_loop.trips) :
    iprop(mid d i O W X C Sg t.val ∗ todo d i (2 * t.val + 2) ∗ todo d i (2 * t.val + 3))
      ⊢ run d i (trip i t) fun _ => iprop(mid d i O W X C Sg (t.val + 1) ∗ done d i X C Sg (2 * t.val) ∗ done d i X C Sg (2 * t.val + 1)) := by
  have ht : t.val < 3 := trips5 ▸ t.isLt
  unfold mid trip done
  iintro ⟨⟨Hm, HA, HB, HO⟩, Ht2, Ht3⟩
  iapply (drain_step d i O W wA (Memref.isWhole_whole _) cc0_scratch8 (wq i + 2 * t.val) (result X C Sg) _ _) $$ [HA HO]
  · unfold away
    isplitl [HA]; · iexact HA
    iexact HO
  iintro ⟨⟨HA, Hd0⟩, Hs8, HO⟩
  iapply (drain_step d i O W wB (Memref.isWhole_whole _) cc0_scratch9 (wq i + (2 * t.val + 1)) (result X C Sg) _ _) $$ [HB HO]
  · unfold away
    isplitl [HB]; · iexact HB
    iexact HO
  iintro ⟨⟨HB, Hd1⟩, Hs9, HO⟩
  iapply (group_step d i X C Sg wA (Memref.isWhole_whole _) cc0_scratch8 ⟨2 * t.val + 2, by omega⟩ (offA t) (offA_inb t)
    (fun v => by
      have e : 32 * t.val + 32 = 16 * (2 * t.val + 2) := by omega
      fin_cases v
      · exact (k0_off10_eq t).trans (by rw [e])
      · exact (k0_off11_eq t).trans (by rw [e])
      · exact (k0_off12_eq t).trans (by rw [e])
      · exact (k0_off13_eq t).trans (by rw [e])) (k0_off16 i t) (k0_off16_inb i t)
    ((k0_off16_eq i t).trans (congrArg (fun n => ![n]) (by unfold wq; dsimp only; omega))) _ _) $$ [Hm HA Ht2 Hs8]
  · isplitl [Hm]; · iexact Hm
    isplitl [HA]
    · unfold anyW; iexact HA
    isplitl [Ht2]; · iexact Ht2
    iexact Hs8
  iintro ⟨Hm, HA⟩
  iapply (group_step d i X C Sg wB (Memref.isWhole_whole _) cc0_scratch9 ⟨2 * t.val + 3, by omega⟩ (offB t) (offB_inb t)
    (fun v => by
      have e : 32 * t.val + 48 = 16 * (2 * t.val + 3) := by omega
      fin_cases v
      · exact (k0_off17_eq t).trans (by rw [e])
      · exact (k0_off18_eq t).trans (by rw [e])
      · exact (k0_off19_eq t).trans (by rw [e])
      · exact (k0_off20_eq t).trans (by rw [e])) (k0_off23 i t) (k0_off23_inb i t)
    ((k0_off23_eq i t).trans (congrArg (fun n => ![n]) (by unfold wq; dsimp only; omega))) _ _) $$ [Hm HB Ht3 Hs9]
  · isplitl [Hm]; · iexact Hm
    isplitl [HB]
    · unfold anyW; iexact HB
    isplitl [Ht3]; · iexact Ht3
    iexact Hs9
  iintro ⟨Hm, HB⟩
  unfold run
  rw [wp_ret]; imodintro
  isplitl [Hm HA HB HO]
  · isplitl [Hm]; · iexact Hm
    isplitl [HA]; · iexact HA
    isplitl [HB]; · iexact HB
    iexact HO
  isplitl [Hd0]; · iexact Hd0
  iexact Hd1

/-- The two windows a trip starts on, and the two the trip ends. -/
def pr (n t : Nat) : HP F :=
  if t < n then iprop(done d i X C Sg (2 * t) ∗ done d i X C Sg (2 * t + 1)) else iprop(todo d i (2 * t + 2) ∗ todo d i (2 * t + 3))

theorem pr_done {n t : Nat} (h : t < n) : pr d i X C Sg n t = iprop(done d i X C Sg (2 * t) ∗ done d i X C Sg (2 * t + 1)) := if_pos h
theorem pr_todo {n t : Nat} (h : ¬ t < n) : pr d i X C Sg n t = iprop(todo d i (2 * t + 2) ∗ todo d i (2 * t + 3)) := if_neg h

/-- The loop's invariant. -/
def inv (n : Nat) : HP F := iprop(mid d i O W X C Sg n ∗ pr d i X C Sg n 0 ∗ pr d i X C Sg n 1 ∗ pr d i X C Sg n 2)

theorem pr_same {n t : Nat} (h : t ≠ n) : pr d i X C Sg n t = pr d i X C Sg (n + 1) t := by
  by_cases h' : t < n
  · rw [pr_done d i X C Sg h', pr_done d i X C Sg (by omega)]
  · rw [pr_todo d i X C Sg h', pr_todo d i X C Sg (by omega)]

theorem trip_inv (t : Fin k0_t5_loop.trips) :
    inv d i O W X C Sg t.val ⊢ run d i (trip i t) fun _ => inv d i O W X C Sg (t.val + 1) := by
  have ht : t.val < 3 := trips5 ▸ t.isLt
  have h := trip_wp d i O W X C Sg t
  rw [← pr_todo d i X C Sg (Nat.lt_irrefl _), ← pr_done d i X C Sg (Nat.lt_succ_self t.val)] at h
  unfold inv
  obtain h0 | h1 | h2 : t.val = 0 ∨ t.val = 1 ∨ t.val = 2 := by omega
  · rw [pr_same d i X C Sg (n := t.val) (t := 1) (by omega), pr_same d i X C Sg (n := t.val) (t := 2) (by omega)]
    rw [h0] at h ⊢
    iintro ⟨Hm, H0, H1, H2⟩
    iapply (h.trans (wp_wand frame (wpE (defs₀ (F := F)) 𝒱₀ (at_ d i) none) Set.univ)) $$ [Hm H0]
    · isplitl [Hm] <;> iassumption
    iintro %_ ⟨Hm, H0⟩
    isplitl [Hm]; · iexact Hm
    isplitl [H0]; · iexact H0
    isplitl [H1]; · iexact H1
    iexact H2
  · rw [pr_same d i X C Sg (n := t.val) (t := 0) (by omega), pr_same d i X C Sg (n := t.val) (t := 2) (by omega)]
    rw [h1] at h ⊢
    iintro ⟨Hm, H0, H1, H2⟩
    iapply (h.trans (wp_wand frame (wpE (defs₀ (F := F)) 𝒱₀ (at_ d i) none) Set.univ)) $$ [Hm H1]
    · isplitl [Hm] <;> iassumption
    iintro %_ ⟨Hm, H1⟩
    isplitl [Hm]; · iexact Hm
    isplitl [H0]; · iexact H0
    isplitl [H1]; · iexact H1
    iexact H2
  · rw [pr_same d i X C Sg (n := t.val) (t := 0) (by omega), pr_same d i X C Sg (n := t.val) (t := 1) (by omega)]
    rw [h2] at h ⊢
    iintro ⟨Hm, H0, H1, H2⟩
    iapply (h.trans (wp_wand frame (wpE (defs₀ (F := F)) 𝒱₀ (at_ d i) none) Set.univ)) $$ [Hm H2]
    · isplitl [Hm] <;> iassumption
    iintro %_ ⟨Hm, H2⟩
    isplitl [Hm]; · iexact Hm
    isplitl [H0]; · iexact H0
    isplitl [H1]; · iexact H1
    iexact H2

end Cert.Proof.Tile

end
-- ==== Proof.TileWhole.lean ====
/-
  The setup and the whole body of a vector subcore.
-/
module

public import proofs.«01_k».proof.Proof.TileRun

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (d : Dev nD) (i : grid0.Coords) (O : CellTallies nD τ sig (HIx 1)) (W : Waits sig (HIx 1))
  (X : Tab 4 4096 (F .f32)) (C Sg : Tab 28 16 (F .f32)) (q : PosShare TreeShare)

/-- What the subcore reads: the inputs, the centers and the widths. -/
def ins : HP F :=
  iprop((xT.view.loc (at_ d i) ↦{q} (X : Buf (Elt F) (xT.view.loc (at_ d i)))) ∗ (cH.view.loc (at_ d i) ↦{q} (C : Buf (Elt F) (cH.view.loc (at_ d i))))
    ∗ sH.view.loc (at_ d i) ↦{q} (Sg : Buf (Elt F) (sH.view.loc (at_ d i))))

/-- The semaphores of the six copies in. -/
def semsIn : HP F := iprop(sem0 d i cc0_scoped0 ∗ sem0 d i cc0_scoped1 ∗ sem0 d i cc0_scoped2 ∗ sem0 d i cc0_scoped3 ∗ sem0 d i cc0_scoped4 ∗ sem0 d i cc0_scoped5)

/-- The block after its four rows' copies. -/
theorem rows_blk (f : Tab 4 128 (F .f32)) (h : 16 * wq i + 128 ≤ 4096) :
    setRow (setRow (setRow (setRow f 0 fun t => X (ix2 0 ⟨16 * wq i + t.val, by omega⟩)) 1 fun t => X (ix2 1 ⟨16 * wq i + t.val, by omega⟩)) 2
      fun t => X (ix2 2 ⟨16 * wq i + t.val, by omega⟩)) 3 (fun t => X (ix2 3 ⟨16 * wq i + t.val, by omega⟩)) = blk X i := by
  funext y
  obtain ⟨a, b, rfl⟩ : ∃ (a : Fin 4) (b : Fin 128), y = ix2 a b := ⟨y 0, y 1, eq_ix2 y⟩
  fin_cases a
  · rw [setRow_other _ _ _ _ _ (by decide), setRow_other _ _ _ _ _ (by decide), setRow_other _ _ _ _ _ (by decide)]
    exact setRow_same ..
  · rw [setRow_other _ _ _ _ _ (by decide), setRow_other _ _ _ _ _ (by decide)]
    exact setRow_same ..
  · rw [setRow_other _ _ _ _ _ (by decide)]
    exact setRow_same ..
  · exact setRow_same ..

/-- The setup: the inputs, the centers and the widths fetched, the widths' reciprocals taken. -/
theorem setup_step (s : Bufs F) :
    Step d i iprop(ins d i X C Sg q ∗ own d i s ∗ semsIn d i ∗ duty d i O W) iprop(ins d i X C Sg q ∗ mine d i X C Sg ∗ semsIn d i ∗ duty d i O W) (setup i) := by
  intro k Q
  have hq := wq_le i
  have hb : 16 * wq i + 128 ≤ 4096 := by omega
  have eb : 256 * (i 1).val + 128 * (i 0).val = 16 * wq i := by unfold wq; omega
  unfold ins semsIn setup
  iintro ⟨⟨HX, HC, HS⟩, Hown, ⟨H0, H1, H2, H3, H4, H5⟩, HO⟩ HK
  unfold own
  icases Hown with ⟨Hx, Hc, Hr, Hrest⟩
  iapply (xCopy_step d i O W 0 (16 * wq i) hb (k0_off1 i) (k0_off1_inb i) ((k0_off1_eq i).trans (by rw [eb]; rfl)) (in4 0) cc0_scoped0 q X _ _ Q) $$ [HX Hx H0 HO]
  · isplitl [HX]; · iexact HX
    isplitl [Hx]; · iexact Hx
    isplitl [H0]; · iexact H0
    iexact HO
  iintro ⟨HX, Hx, H0, HO⟩
  iapply (xCopy_step d i O W 1 (16 * wq i) hb (k0_off2 i) (k0_off2_inb i) ((k0_off2_eq i).trans (by rw [eb]; rfl)) (in4 1) cc0_scoped1 q X _ _ Q) $$ [HX Hx H1 HO]
  · isplitl [HX]; · iexact HX
    isplitl [Hx]; · iexact Hx
    isplitl [H1]; · iexact H1
    iexact HO
  iintro ⟨HX, Hx, H1, HO⟩
  iapply (xCopy_step d i O W 2 (16 * wq i) hb (k0_off3 i) (k0_off3_inb i) ((k0_off3_eq i).trans (by rw [eb]; rfl)) (in4 2) cc0_scoped2 q X _ _ Q) $$ [HX Hx H2 HO]
  · isplitl [HX]; · iexact HX
    isplitl [Hx]; · iexact Hx
    isplitl [H2]; · iexact H2
    iexact HO
  iintro ⟨HX, Hx, H2, HO⟩
  iapply (xCopy_step d i O W 3 (16 * wq i) hb (k0_off4 i) (k0_off4_inb i) ((k0_off4_eq i).trans (by rw [eb]; rfl)) (in4 3) cc0_scoped3 q X _ _ Q) $$ [HX Hx H3 HO]
  · isplitl [HX]; · iexact HX
    isplitl [Hx]; · iexact Hx
    isplitl [H3]; · iexact H3
    iexact HO
  iintro ⟨HX, Hx, H3, HO⟩
  rw [rows_blk i X s.x hb]
  iapply (wCopy_step d i O W cH (Memref.isWhole_whole _) cB (Memref.isWhole_whole _) cc0_scoped4 q C s.c _ Q) $$ [HC Hc H4 HO]
  · isplitl [HC]; · iexact HC
    isplitl [Hc]; · iexact Hc
    isplitl [H4]; · iexact H4
    iexact HO
  iintro ⟨HC, Hc, H4, HO⟩
  iapply (wCopy_step d i O W sH (Memref.isWhole_whole _) rB (Memref.isWhole_whole _) cc0_scoped5 q Sg s.r _ Q) $$ [HS Hr H5 HO]
  · isplitl [HS]; · iexact HS
    isplitl [Hr]; · iexact Hr
    isplitl [H5]; · iexact H5
    iexact HO
  iintro ⟨HS, Hr, H5, HO⟩
  rw [show cB.view.write (Elt F) s.c (cH.view.read (Elt F) C) Finset.univ = C from View.write_whole_univ ..,
    show rB.view.write (Elt F) s.r (sH.view.read (Elt F) Sg) Finset.univ = Sg from View.write_whole_univ ..]
  iapply (recips_step d i { s with x := blk X i, c := C, r := Sg } k Q) $$ [Hx Hc Hr Hrest]
  · unfold own
    isplitl [Hx]; · iexact Hx
    isplitl [Hc]; · iexact Hc
    isplitl [Hr]; · iexact Hr
    iexact Hrest
  iintro Hown
  iapply HK
  isplitl [HX HC HS]
  · isplitl [HX]; · iexact HX
    isplitl [HC]; · iexact HC
    iexact HS
  isplitl [Hown]
  · unfold mine
    iexists _
    isplitr
    rotate_left
    · iexact Hown
    · ipureintro; exact ⟨rfl, rfl, rfl⟩
  isplitr [HO]
  · isplitl [H0]; · iexact H0
    isplitl [H1]; · iexact H1
    isplitl [H2]; · iexact H2
    isplitl [H3]; · iexact H3
    isplitl [H4]; · iexact H4
    iexact H5
  iexact HO

/-- The eight windows, not yet written, and written. -/
def todos : HP F := iprop((todo d i 0 ∗ todo d i 1) ∗ (todo d i 2 ∗ todo d i 3) ∗ (todo d i 4 ∗ todo d i 5) ∗ (todo d i 6 ∗ todo d i 7))
def dones : HP F := iprop((done d i X C Sg 0 ∗ done d i X C Sg 1) ∗ (done d i X C Sg 2 ∗ done d i X C Sg 3)
  ∗ (done d i X C Sg 4 ∗ done d i X C Sg 5) ∗ (done d i X C Sg 6 ∗ done d i X C Sg 7))

/-- The semaphores of the copies out. -/
def semsOut : HP F := iprop(sem0 d i cc0_scratch8 ∗ sem0 d i cc0_scratch9)

/-- A trip as the loop has it. -/
theorem trip_body (t : Fin k0_t5_loop.trips) :
    inv d i O W X C Sg t.val ⊢ run d i ((trip i t).bind fun _ => (.ret ⟨⟩ : TP F i PUnit)) fun _ => inv d i O W X C Sg (t.val + 1) := by
  have e : ((trip (F := F) i t).bind fun _ => (.ret ⟨⟩ : TP F i PUnit)) = trip i t := Prog.bind_pure (trip (F := F) i t)
  rw [e]
  exact trip_inv d i O W X C Sg t

set_option maxRecDepth 100000 in
/-- The whole body. -/
theorem body_wp :
    iprop(ins d i X C Sg q ∗ (∃ s, own d i s) ∗ anyW d i wA ∗ anyW d i wB ∗ semsIn d i ∗ semsOut d i ∗ duty d i O W ∗ todos d i)
      ⊢ run d i (body i) fun _ =>
        iprop(ins d i X C Sg q ∗ (∃ s, own d i s) ∗ anyW d i wA ∗ anyW d i wB ∗ semsIn d i ∗ semsOut d i ∗ duty d i O W ∗ dones d i X C Sg) := by
  unfold semsOut todos body
  iintro ⟨Hi, ⟨%s, Hown⟩, HA, HB, Hsi, ⟨H8, H9⟩, HO, ⟨T0, T1⟩, T2, T4, T6⟩
  iapply (setup_step d i O W X C Sg q s _ _) $$ [Hi Hown Hsi HO]
  · isplitl [Hi]; · iexact Hi
    isplitl [Hown]; · iexact Hown
    isplitl [Hsi]; · iexact Hsi
    iexact HO
  iintro ⟨Hi, Hm, Hsi, HO⟩
  iapply (group_step d i X C Sg wA (Memref.isWhole_whole _) cc0_scratch8 0 (offs 0) (offs_inb 0 (by decide)) (fun v => rfl) (k0_off7 i 0#32) (k0_off7_inb i 0)
    ((k0_off7_eq i 0).trans (congrArg (fun n => ![n]) (by unfold wq; show 614656 * (i 1).val + 307328 * (i 0).val + 38416 * 0 = 38416 * (16 * (i 1).val + 8 * (i 0).val + 0); omega))) _ _) $$ [Hm HA T0 H8]
  · isplitl [Hm]; · iexact Hm
    isplitl [HA]; · iexact HA
    isplitl [T0]; · iexact T0
    iexact H8
  iintro ⟨Hm, HA⟩
  iapply (group_step d i X C Sg wB (Memref.isWhole_whole _) cc0_scratch9 1 (offs 16) (offs_inb 16 (by decide)) (fun v => rfl) (k0_off7 i 16#32) (k0_off7_inb i 1)
    ((k0_off7_eq i 1).trans (congrArg (fun n => ![n]) (by unfold wq; show 614656 * (i 1).val + 307328 * (i 0).val + 38416 * 1 = 38416 * (16 * (i 1).val + 8 * (i 0).val + 1); omega))) _ _) $$ [Hm HB T1 H9]
  · isplitl [Hm]; · iexact Hm
    isplitl [HB]; · iexact HB
    isplitl [T1]; · iexact T1
    iexact H9
  iintro ⟨Hm, HB⟩
  have hb : ∀ (t : Fin k0_t5_loop.trips) (_ : PUnit.{1}), inv d i O W X C Sg t.val
      ⊢ wp frame (wpE (defs₀ (F := F)) 𝒱₀ (at_ d i) none) Set.univ ((trip i t).bind fun _ => .ret ⟨⟩ : TP F i PUnit) fun _ => inv d i O W X C Sg (t.val + 1) :=
    fun t _ => trip_body d i O W X C Sg t
  iapply (Scf.wp_for_bind frame (wpE (defs₀ (F := F)) 𝒱₀ (at_ d i) none) Set.univ k0_t5_loop.lb k0_t5_loop.ub k0_t5_loop.st k0_t5_ok (⟨⟩ : PUnit.{1})
    (fun t _ => ((trip i t).bind fun _ => .ret ⟨⟩ : TP F i PUnit))
    (fun n _ => inv d i O W X C Sg n) hb) $$ [Hm HA HB HO T2 T4 T6]
  · unfold inv mid
    rw [pr_todo d i X C Sg (by decide), pr_todo d i X C Sg (by decide), pr_todo d i X C Sg (by decide)]
    isplitl [Hm HA HB HO]
    · isplitl [Hm]; · iexact Hm
      isplitl [HA]; · iexact HA
      isplitl [HB]; · iexact HB
      iexact HO
    isplitl [T2]; · iexact T2
    isplitl [T4]; · iexact T4
    iexact T6
  iintro %_ H
  rw [show Scf.trips k0_t5_loop.lb k0_t5_loop.ub k0_t5_loop.st = 3 from trips5]
  unfold inv mid
  rw [pr_done d i X C Sg (by decide), pr_done d i X C Sg (by decide), pr_done d i X C Sg (by decide)]
  icases H with ⟨⟨Hm, HA, HB, HO⟩, T0, T2, T4⟩
  iapply (drain_step d i O W wA (Memref.isWhole_whole _) cc0_scratch8 (wq i + 6) (result X C Sg) _ _) $$ [HA HO]
  · unfold away
    isplitl [HA]; · iexact HA
    iexact HO
  iintro ⟨⟨HA, T6⟩, H8, HO⟩
  iapply (drain_step d i O W wB (Memref.isWhole_whole _) cc0_scratch9 (wq i + 7) (result X C Sg) _ _) $$ [HB HO]
  · unfold away
    isplitl [HB]; · iexact HB
    iexact HO
  iintro ⟨⟨HB, T7⟩, H9, HO⟩
  unfold run
  rw [wp_ret]; imodintro
  isplitl [Hi]; · iexact Hi
  isplitl [Hm]
  · unfold mine
    icases Hm with ⟨%s', -, Hown⟩
    iexists s'
    iexact Hown
  unfold anyW
  isplitl [HA]; · iexact HA
  isplitl [HB]; · iexact HB
  isplitl [Hsi]; · iexact Hsi
  isplitl [H8 H9]
  · isplitl [H8]; · iexact H8
    iexact H9
  isplitl [HO]; · iexact HO
  unfold dones
  isplitl [T0]; · iexact T0
  isplitl [T2]; · iexact T2
  isplitl [T4]; · iexact T4
  unfold done
  isplitl [T6]; · iexact T6
  iexact T7

end Cert.Proof.Tile

end
-- ==== Proof.Task.lean ====
/-
  One task of the call: what a vector subcore is handed and hands back, its own buffers and semaphores found among what
  the launch gives it, and the launch's obligation for it.
-/
module

public import proofs.«01_k».proof.Proof.TileWhole

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The grid coordinates of a core and a subcore. -/
def crd (c : Fin (grid0.bound 0)) (s : Fin (grid0.bound 1)) : grid0.Coords :=
  fun | 0 => c | 1 => s | ⟨_ + 2, h⟩ => absurd h (Nat.not_lt.2 (Nat.le_add_left _ _))

/-! ## A family's eight members apart -/

/-- Eight members named by an injection, apart from the rest. -/
theorem bigSep_eight {I : Type} [DecidableEq I] (S : Finset I) (g : Fin 8 → I) (hg : Function.Injective g) (hS : ∀ j, g j ∈ S) (Φ : I → HP F) :
    bigSep S Φ = iprop((Φ (g 0) ∗ Φ (g 1) ∗ Φ (g 2) ∗ Φ (g 3) ∗ Φ (g 4) ∗ Φ (g 5) ∗ Φ (g 6) ∗ Φ (g 7))
      ∗ bigSep (S \ Finset.univ.map ⟨g, hg⟩) Φ) := by
  rw [bigSep_sdiff_split (s := S) (t := Finset.univ.map ⟨g, hg⟩) (fun x hx => by obtain ⟨j, -, rfl⟩ := Finset.mem_map.mp hx; exact hS j), bigSep_map,
    bigSep_univ_eq_bigSepL [0, 1, 2, 3, 4, 5, 6, 7] (by decide) (by decide)]
  rfl

/-- The subcore's scratch buffers. -/
def scr : Fin 8 → Ref sig .scVector
  | 0 => cc0_scratch0 | 1 => cc0_scratch1 | 2 => cc0_scratch2 | 3 => cc0_scratch3
  | 4 => cc0_scratch4 | 5 => cc0_scratch5 | 6 => cc0_scratch6 | 7 => cc0_scratch7
/-- The semaphores of its copies. -/
def sms : Fin 8 → DmaSems sig S_
  | 0 => cc0_scoped0 | 1 => cc0_scoped1 | 2 => cc0_scoped2 | 3 => cc0_scoped3
  | 4 => cc0_scoped4 | 5 => cc0_scoped5 | 6 => cc0_scratch8 | 7 => cc0_scratch9

theorem scr_inj : Function.Injective scr := by decide
theorem sms_inj : Function.Injective fun j => (SemLoc.dma (sms j).sem : SemLoc sig) := by decide

variable (d : Dev nD) (i : grid0.Coords)

/-- The scratch buffers of the subcore, and its semaphores, among all. -/
def scrAt (j : Fin 8) : DevRef τ sig := (at_ d i).2.devRef (scr j)
def smsAt (j : Fin 8) : GSem nD τ sig := (at_ d i, SemLoc.dma (sms j).sem)
theorem scrAt_inj : Function.Injective (scrAt d i) := (Proc.devRef_injective _).comp scr_inj
theorem smsAt_inj : Function.Injective (smsAt d i) := fun _ _ h => sms_inj (Prod.ext_iff.mp h).2

/-- What else a subcore owns. -/
def bufsRest : HP F :=
  bigSep (ownRefs (τ := τ) (at_ d i).2 \ Finset.univ.map ⟨scrAt d i, scrAt_inj d i⟩) fun b => iprop(∃ f, ((d, b) : Loc nD τ sig) ↦{fullShare} f)
def semsRest : HP F := bigSep (ownCells (at_ d i) \ Finset.univ.map ⟨smsAt d i, smsAt_inj d i⟩) fun g => semVal g 0

theorem scrAt_mem (j : Fin 8) : scrAt d i j ∈ ownRefs (τ := τ) (at_ d i).2 :=
  SparseCore.Cfg.mem_ownRefs_of_owner (by fin_cases j <;> rfl)
theorem smsAt_mem (j : Fin 8) : smsAt d i j ∈ ownCells (at_ d i) :=
  mem_ownCells.mpr ⟨rfl, by
    show (SemLoc.dma (sms j).sem : SemLoc sig).isScoped .scVector = true
    fin_cases j <;> decide⟩

theorem ownBufs_V : (ownBufs (at_ d i) : HP F)
    = iprop(((∃ f, pt d i xB f) ∗ (∃ f, pt d i cB f) ∗ (∃ f, pt d i rB f) ∗ (∃ f, pt d i fB f) ∗ (∃ f, pt d i pB f) ∗ (∃ f, pt d i qB f)
      ∗ (∃ f, pt d i wA f) ∗ (∃ f, pt d i wB f)) ∗ bufsRest d i) :=
  bigSep_eight (ownRefs (τ := τ) (at_ d i).2) (scrAt d i) (scrAt_inj d i) (scrAt_mem d i) fun b => iprop(∃ f, ((d, b) : Loc nD τ sig) ↦{fullShare} f)

theorem ownSems0_V : (ownSems0 (at_ d i) : HP F)
    = iprop((sem0 d i cc0_scoped0 ∗ sem0 d i cc0_scoped1 ∗ sem0 d i cc0_scoped2 ∗ sem0 d i cc0_scoped3 ∗ sem0 d i cc0_scoped4 ∗ sem0 d i cc0_scoped5
      ∗ sem0 d i cc0_scratch8 ∗ sem0 d i cc0_scratch9) ∗ semsRest d i) :=
  bigSep_eight (ownCells (at_ d i)) (smsAt d i) (smsAt_inj d i) (smsAt_mem d i) fun g => semVal g 0

/-! ## What a task is handed and hands back -/

variable (X : Dev nD → Tab 4 4096 (F .f32)) (C Sg : Dev nD → Tab 28 16 (F .f32))

/-- The share of the inputs a task reads by. -/
def shr : PosShare TreeShare := Transfers.shareTokN fullShare (16 * (i 0).val + (i 1).val)

def taskIn : HP F := iprop(ins d i (X d) (C d) (Sg d) (shr i) ∗ todos d i)
def taskOut : HP F := iprop(ins d i (X d) (C d) (Sg d) (shr i) ∗ dones d i (X d) (C d) (Sg d))

instance taskIn_storable : BI.Storable (upEmb : UEmb _ (MT nD τ sig (HIx 1) (Elt F) ℕ UU ℕ)) (taskIn d i X C Sg) := by
  unfold taskIn ins todos todo; infer_instance
instance taskOut_storable : BI.Storable (upEmb : UEmb _ (MT nD τ sig (HIx 1) (Elt F) ℕ UU ℕ)) (taskOut d i X C Sg) := by
  unfold taskOut ins dones done; infer_instance

/-- The payloads of the call: a task's, and a core's, which are its tasks'. -/
def goP (q : Fin 1) (d : Dev nD) (c : Fin ((K (F := F)).nCore q)) (s : Fin ((K (F := F)).nSub q)) : HP F :=
  match q with | 0 => taskIn d (crd ⟨c.val, c.isLt⟩ ⟨s.val, s.isLt⟩) X C Sg
def tdP (q : Fin 1) (d : Dev nD) (c : Fin ((K (F := F)).nCore q)) (s : Fin ((K (F := F)).nSub q)) : HP F :=
  match q with | 0 => taskOut d (crd ⟨c.val, c.isLt⟩ ⟨s.val, s.isLt⟩) X C Sg

instance goP_storable (q : Fin 1) (d : Dev nD) (c : Fin ((K (F := F)).nCore q)) (s : Fin ((K (F := F)).nSub q)) :
    BI.Storable (upEmb : UEmb _ (MT nD τ sig (HIx 1) (Elt F) ℕ UU ℕ)) (goP X C Sg q d c s) := match q with | 0 => taskIn_storable d _ X C Sg
instance tdP_storable (q : Fin 1) (d : Dev nD) (c : Fin ((K (F := F)).nCore q)) (s : Fin ((K (F := F)).nSub q)) :
    BI.Storable (upEmb : UEmb _ (MT nD τ sig (HIx 1) (Elt F) ℕ UU ℕ)) (tdP X C Sg q d c s) := match q with | 0 => taskOut_storable d _ X C Sg

def P : (K (F := F)).Pay (nD := nD) (Val := Elt F) (Name := ℕ) (U := UU) where
  st := fun q d c => bigSep Finset.univ fun s => goP X C Sg q d c s
  dn := fun q d c => bigSep Finset.univ fun s => tdP X C Sg q d c s
  go := goP X C Sg
  td := tdP X C Sg
  x := fun _ _ => iprop(emp)

instance P_storable : (P X C Sg).IsStorable where
  st q d c := (inferInstance : BI.Storable (upEmb : UEmb _ (MT nD τ sig (HIx 1) (Elt F) ℕ UU ℕ)) (bigSep Finset.univ fun s => goP X C Sg q d c s))
  dn q d c := (inferInstance : BI.Storable (upEmb : UEmb _ (MT nD τ sig (HIx 1) (Elt F) ℕ UU ℕ)) (bigSep Finset.univ fun s => tdP X C Sg q d c s))
  go q d c s := goP_storable X C Sg q d c s
  td q d c s := tdP_storable X C Sg q d c s

/-- Handed on as it is, and back. -/
theorem pass (A B : HP F) : A ⊢ |={Set.univ}=> iprop(A ∗ (B -∗ B)) := by
  iintro H; imodintro
  isplitl [H]; · iexact H
  iintro H; iexact H

/-- A core's payload is dealt its tasks', and collected from them. -/
theorem vecSplit : (K (F := F)).VecSplit' (P X C Sg) 0 := fun _ _ => pass _ _

/-! ## The task's run -/

/-- A scatter buffer at any contents. -/
theorem anyW_of (B : Memref sig .scVector .vmem S38416 .f32) : iprop(∃ f, pt d i B f) ⊢ (anyW d i B : HP F) := by
  unfold anyW wbuf
  iintro ⟨%f, H⟩
  iexists _, f
  isplitr; · ipureintro; rfl
  iexact H

theorem anyW_to (B : Memref sig .scVector .vmem S38416 .f32) : (anyW d i B : HP F) ⊢ iprop(∃ f, pt d i B f) := by
  unfold anyW wbuf
  iintro ⟨%g, %f, -, H⟩
  iexists f
  iexact H

theorem task_body (O : CellTallies nD τ sig (HIx 1)) (W : Waits sig (HIx 1)) (hO : ∀ g, O g none = 0) :
    iprop(levAts (K (F := F)).L (K (F := F)).lev ∗ emp ∗ taskIn d i X C Sg ∗ scopedBufs (at_ d i) ∗ scopedSems0 (at_ d i) ∗ owes (at_ d i) O W)
      ⊢ run d i (cc0__body (F := F) i xT (Memref.isWhole_whole _) cH (Memref.isWhole_whole _) sH (Memref.isWhole_whole _) oH (Memref.isWhole_whole _)
          xB (Memref.isWhole_whole _) cB (Memref.isWhole_whole _) rB (Memref.isWhole_whole _) fB (Memref.isWhole_whole _) pB (Memref.isWhole_whole _)
          qB (Memref.isWhole_whole _) wA (Memref.isWhole_whole _) wB (Memref.isWhole_whole _) cc0_scratch8 cc0_scratch9
          cc0_scoped0 cc0_scoped1 cc0_scoped2 cc0_scoped3 cc0_scoped4 cc0_scoped5)
        fun _ => iprop(taskOut d i X C Sg ∗ scopedBufs (at_ d i) ∗ scopedSems0 (at_ d i) ∗ ∃ W', ⌜∀ p ∈ W', p ∈ W ∨ p.2 = none⌝ ∗ owes (at_ d i) O W') := by
  rw [body_eq, (K (F := F)).scopedBufs_V facts d _ _, SparseCore.Cfg.scopedSems0_V (Val := Elt F) d _ _, ownSems0_V d i, ownBufs_V d i]
  unfold run taskIn taskOut
  iintro ⟨#Hlv, -, ⟨Hin, Ht⟩, ⟨⟨⟨%f0, B0⟩, ⟨%f1, B1⟩, ⟨%f2, B2⟩, ⟨%f3, B3⟩, ⟨%f4, B4⟩, ⟨%f5, B5⟩, B6, B7⟩, Hb⟩,
    ⟨⟨M0, M1, M2, M3, M4, M5, M6, M7⟩, Hm⟩, HO⟩
  ihave B6 := (anyW_of d i wA) $$ B6
  ihave B7 := (anyW_of d i wB) $$ B7
  ihave Hmw := ((K (F := F)).mayWaits_none (thr := at_ d i) hO) $$ Hlv
  have h := body_wp d i O W (X d) (C d) (Sg d) (shr i)
  unfold run at h
  iapply (h.trans (wp_wand frame (wpE (defs₀ (F := F)) 𝒱₀ (at_ d i) none) Set.univ)) $$ [Hin B0 B1 B2 B3 B4 B5 B6 B7 M0 M1 M2 M3 M4 M5 M6 M7 HO Hmw Ht]
  · unfold semsIn semsOut duty
    isplitl [Hin]; · iexact Hin
    isplitl [B0 B1 B2 B3 B4 B5]
    · iexists (⟨f0, f1, f2, f3, f4, f5⟩ : Bufs F)
      unfold own
      isplitl [B0]; · iexact B0
      isplitl [B1]; · iexact B1
      isplitl [B2]; · iexact B2
      isplitl [B3]; · iexact B3
      isplitl [B4]; · iexact B4
      iexact B5
    isplitl [B6]; · iexact B6
    isplitl [B7]; · iexact B7
    isplitl [M0 M1 M2 M3 M4 M5]
    · isplitl [M0]; · iexact M0
      isplitl [M1]; · iexact M1
      isplitl [M2]; · iexact M2
      isplitl [M3]; · iexact M3
      isplitl [M4]; · iexact M4
      iexact M5
    isplitl [M6 M7]
    · isplitl [M6]; · iexact M6
      iexact M7
    isplitl [HO Hmw]
    · isplitl [Hmw]; · iexact Hmw
      iexists W
      isplitr; · ipureintro; exact fun p hp => .inl hp
      iexact HO
    iexact Ht
  iintro %_ ⟨Hin, ⟨%s, Hown⟩, B6, B7, Hsi, Hso, Hd, Ht⟩
  unfold own duty semsIn semsOut
  icases Hown with ⟨B0, B1, B2, B3, B4, B5⟩
  icases Hsi with ⟨M0, M1, M2, M3, M4, M5⟩
  icases Hso with ⟨M6, M7⟩
  icases Hd with ⟨-, HO⟩
  ihave B6 := (anyW_to d i wA) $$ B6
  ihave B7 := (anyW_to d i wB) $$ B7
  isplitl [Hin Ht]
  · isplitl [Hin]; · iexact Hin
    iexact Ht
  isplitl [B0 B1 B2 B3 B4 B5 B6 B7 Hb]
  · isplitl [B0 B1 B2 B3 B4 B5 B6 B7]
    · isplitl [B0]; · iexists _; iexact B0
      isplitl [B1]; · iexists _; iexact B1
      isplitl [B2]; · iexists _; iexact B2
      isplitl [B3]; · iexists _; iexact B3
      isplitl [B4]; · iexists _; iexact B4
      isplitl [B5]; · iexists _; iexact B5
      isplitl [B6]; · iexact B6
      iexact B7
    iexact Hb
  isplitl [M0 M1 M2 M3 M4 M5 M6 M7 Hm]
  · isplitl [M0 M1 M2 M3 M4 M5 M6 M7]
    · isplitl [M0]; · iexact M0
      isplitl [M1]; · iexact M1
      isplitl [M2]; · iexact M2
      isplitl [M3]; · iexact M3
      isplitl [M4]; · iexact M4
      isplitl [M5]; · iexact M5
      isplitl [M6]; · iexact M6
      iexact M7
    iexact Hm
  iexact HO

theorem defs₀_vector (c : Fin τ.nSC) (s : Fin τ.nSub) :
    defs₀ (F := F) (.scVector c s) 0 () = SparseCore.onTile hcore0 hsub0 (fun c s => cc0__body (F := F) (crd c s)
      xT (Memref.isWhole_whole _) cH (Memref.isWhole_whole _) sH (Memref.isWhole_whole _) oH (Memref.isWhole_whole _)
      xB (Memref.isWhole_whole _) cB (Memref.isWhole_whole _) rB (Memref.isWhole_whole _) fB (Memref.isWhole_whole _) pB (Memref.isWhole_whole _)
      qB (Memref.isWhole_whole _) wA (Memref.isWhole_whole _) wB (Memref.isWhole_whole _) cc0_scratch8 cc0_scratch9
      cc0_scoped0 cc0_scoped1 cc0_scoped2 cc0_scoped3 cc0_scoped4 cc0_scoped5) ⟨⟩ c s := rfl

/-- What the body waited for, as the launch asks it. -/
theorem obl_post {thr : Thread nD τ} {A B E : HP F} {W : Waits sig (HIx 1)} {O : CellTallies nD τ sig (HIx 1)} {q : Fin 1} :
    iprop(A ∗ B ∗ E ∗ ∃ W', ⌜∀ p ∈ W', p ∈ W ∨ p.2 = none⌝ ∗ owes thr O W')
      ⊢ iprop(A ∗ B ∗ E ∗ ∃ W', ⌜∀ p ∈ W', p ∈ W ∨ p.2 = none ∨ p.2 = some q⌝ ∗ owes thr O W') := by
  iintro ⟨HA, HB, HE, %W', %h, HO⟩
  isplitl [HA]; · iexact HA
  isplitl [HB]; · iexact HB
  isplitl [HE]; · iexact HE
  iexists W'
  isplitr; · ipureintro; exact fun p hp => (h p hp).imp_right .inl
  iexact HO

set_option maxRecDepth 100000 in
/-- The launch's obligation for a task. -/
theorem tileObl : (K (F := F)).TileObl (D (F := F)) 𝒱 (P X C Sg) v₀ 0 := by
  intro d c i O W hO _ _
  simp only [show (P X C Sg).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (task_body d (crd ⟨_, hc.1⟩ ⟨_, hc.2⟩) X C Sg O W hO).trans (wp_mono frame _ _ fun _ => obl_post)

end Cert.Proof.Tile

end
-- ==== Proof.Deal.lean ====
/-
  The call's arrays dealt to its tasks and collected from them: every task reads the inputs by a share of its own and
  writes eight windows of the result.
-/
module

public import proofs.«01_k».proof.Proof.Task

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev NC : Nat := (K (F := F)).nCore 0
abbrev NS : Nat := (K (F := F)).nSub 0

theorem NC_lt (c : Fin (NC (F := F))) : c.val < 2 := c.isLt
theorem NS_lt (s : Fin (NS (F := F))) : s.val < 16 := s.isLt

/-- A task's grid coordinates. -/
def co (c : Fin (NC (F := F))) (s : Fin (NS (F := F))) : grid0.Coords := crd ⟨c.val, c.isLt⟩ ⟨s.val, s.isLt⟩

theorem wq_co (c : Fin (NC (F := F))) (s : Fin (NS (F := F))) : wq (co c s) = 16 * s.val + 8 * c.val := rfl
theorem shr_co (c : Fin (NC (F := F))) (s : Fin (NS (F := F))) : shr (co c s) = Transfers.shareTokN fullShare (16 * c.val + s.val) := rfl

/-- One of each task. -/
def grid (Φ : Fin (NC (F := F)) → Fin (NS (F := F)) → HP F) : HP F := bigSep Finset.univ fun c => bigSep Finset.univ fun s => Φ c s

theorem grid_sep (Φ Ψ : Fin (NC (F := F)) → Fin (NS (F := F)) → HP F) : grid (fun c s => iprop(Φ c s ∗ Ψ c s)) = iprop(grid Φ ∗ grid Ψ) := by
  unfold grid
  exact (bigSep_congr fun c _ => bigSep_sep Finset.univ (Φ c) (Ψ c)).trans (bigSep_sep _ _ _)

theorem grid_mono {Φ Ψ : Fin (NC (F := F)) → Fin (NS (F := F)) → HP F} (h : ∀ c s, Φ c s ⊢ Ψ c s) : grid Φ ⊢ grid Ψ :=
  bigSep_mono fun c _ => bigSep_mono fun s _ => h c s

/-- An array read by all the tasks: a share for each, and one left over. -/
theorem deal_read (ℓ : Loc nD τ sig) (f : Buf (Elt F) ℓ) :
    (ℓ ↦{fullShare} f : HP F) ⊣⊢ iprop((ℓ ↦{Transfers.shareDrop fullShare (NC (F := F) * NS (F := F))} f) ∗ grid (F := F) fun c s => ℓ ↦{shr (co c s)} f) := by
  have e : (grid (F := F) fun c s => ℓ ↦{shr (co c s)} f) = bigSep Finset.univ fun j : Fin (NC (F := F) * NS (F := F)) => (ℓ ↦{Transfers.shareTok fullShare _ j} f : HP F) := by
    rw [bigSep_univ_equiv finProdFinEquiv, bigSep_univ_prod]
    unfold grid
    refine bigSep_congr fun c _ => bigSep_congr fun s _ => ?_
    dsimp only
    rw [shr_co, show Transfers.shareTok fullShare _ (finProdFinEquiv (c, s)) = Transfers.shareTokN fullShare (16 * c.val + s.val) from
      congrArg (Transfers.shareTokN fullShare) (Nat.add_comm s.val (16 * c.val))]
  rw [e]
  exact Transfers.pointsTo_toks fullShare _

/-- The window a task's `g`-th group writes. -/
def twin (t : (Fin (NC (F := F)) × Fin (NS (F := F))) × Fin 8) : Finset S9834496.Idx := win (wq (co t.1.1 t.1.2) + t.2.val)

theorem mem_win (q : Nat) (n : S9834496.Idx) : n ∈ win q ↔ (n 0).val / 38416 = q := by
  unfold win; rw [Finset.mem_filter]; exact ⟨fun h => h.2, fun h => ⟨Finset.mem_univ _, h⟩⟩

theorem twin_disjoint (t t' : (Fin (NC (F := F)) × Fin (NS (F := F))) × Fin 8) (h : t ≠ t') : Disjoint (twin t) (twin t') := by
  refine Finset.disjoint_left.mpr fun n hn hn' => h ?_
  obtain ⟨⟨c, s⟩, g⟩ := t
  obtain ⟨⟨c', s'⟩, g'⟩ := t'
  have e := ((mem_win _ _).mp hn).symm.trans ((mem_win _ _).mp hn')
  dsimp only at e
  rw [wq_co, wq_co] at e
  have h1 := NC_lt c; have h2 := NC_lt c'
  have hg := g.isLt; have hg' := g'.isLt
  obtain rfl : c = c' := Fin.ext (by omega)
  obtain rfl : s = s' := Fin.ext (by omega)
  obtain rfl : g = g' := Fin.ext (by omega)
  rfl

theorem twin_cover (n : S9834496.Idx) : ∃ t, n ∈ twin (F := F) t := by
  have hn : (n 0).val < 9834496 := (n 0).isLt
  refine ⟨((⟨(n 0).val / 38416 % 16 / 8, show _ < 2 by omega⟩, ⟨(n 0).val / 38416 / 16, show _ < 16 by omega⟩), ⟨(n 0).val / 38416 % 8, by omega⟩), (mem_win _ _).mpr ?_⟩
  rw [wq_co]
  dsimp only
  omega

variable (d : Dev nD)

/-- The call's arrays on the device. -/
abbrev xLoc : Loc nD τ sig := (SparseCore.T d).loc main_v0
abbrev cLoc : Loc nD τ sig := (SparseCore.T d).loc main_v2
abbrev sLoc : Loc nD τ sig := (SparseCore.T d).loc main_v4
abbrev oLoc : Loc nD τ sig := (SparseCore.T d).loc main_v5

/-- A task's windows of the result, at contents `R`. -/
def outs (i : grid0.Coords) (R : Res F) : HP F :=
  iprop((winAt d i (wq i + 0) R ∗ winAt d i (wq i + 1) R) ∗ (winAt d i (wq i + 2) R ∗ winAt d i (wq i + 3) R)
    ∗ (winAt d i (wq i + 4) R ∗ winAt d i (wq i + 5) R) ∗ (winAt d i (wq i + 6) R ∗ winAt d i (wq i + 7) R))

/-- Eight in a row, two by two. -/
theorem by_twos (a0 a1 a2 a3 a4 a5 a6 a7 : HP F) : iprop(a0 ∗ a1 ∗ a2 ∗ a3 ∗ a4 ∗ a5 ∗ a6 ∗ a7) = iprop((a0 ∗ a1) ∗ (a2 ∗ a3) ∗ (a4 ∗ a5) ∗ (a6 ∗ a7)) := by
  have h1 : iprop(a0 ∗ a1 ∗ a2 ∗ a3 ∗ a4 ∗ a5 ∗ a6 ∗ a7) ⊢ iprop((a0 ∗ a1) ∗ (a2 ∗ a3) ∗ (a4 ∗ a5) ∗ (a6 ∗ a7)) := by
    iintro ⟨H0, H1, H2, H3, H4, H5, H6, H7⟩
    isplitl [H0 H1]; · isplitl [H0] <;> iassumption
    isplitl [H2 H3]; · isplitl [H2] <;> iassumption
    isplitl [H4 H5]; · isplitl [H4] <;> iassumption
    isplitl [H6] <;> iassumption
  have h2 : iprop((a0 ∗ a1) ∗ (a2 ∗ a3) ∗ (a4 ∗ a5) ∗ (a6 ∗ a7)) ⊢ iprop(a0 ∗ a1 ∗ a2 ∗ a3 ∗ a4 ∗ a5 ∗ a6 ∗ a7) := by
    iintro ⟨⟨H0, H1⟩, ⟨H2, H3⟩, ⟨H4, H5⟩, H6, H7⟩
    isplitl [H0]; · iexact H0
    isplitl [H1]; · iexact H1
    isplitl [H2]; · iexact H2
    isplitl [H3]; · iexact H3
    isplitl [H4]; · iexact H4
    isplitl [H5]; · iexact H5
    isplitl [H6] <;> iassumption
  exact equiv_iff.mp ⟨h1, h2⟩

theorem bigSep_fin8 (Φ : Fin 8 → HP F) : bigSep Finset.univ Φ = iprop((Φ 0 ∗ Φ 1) ∗ (Φ 2 ∗ Φ 3) ∗ (Φ 4 ∗ Φ 5) ∗ (Φ 6 ∗ Φ 7)) := by
  rw [bigSep_univ_eq_bigSepL [0, 1, 2, 3, 4, 5, 6, 7] (by decide) (by decide)]
  exact by_twos _ _ _ _ _ _ _ _

/-- A window as a set of places of the array. -/
def twinO (t : (Fin (NC (F := F)) × Fin (NS (F := F))) × Fin 8) : Finset (Idx (oLoc d)) := twin t

/-- The result, dealt by windows. -/
theorem deal_out (R : Res F) : (oLoc d ↦{fullShare} (R : Buf (Elt F) (oLoc d)) : HP F) = grid (F := F) fun c s => outs d (co c s) R := by
  have hc : Finset.univ.biUnion (twinO (F := F) d) = Finset.univ :=
    Finset.eq_univ_iff_forall.mpr fun n => Finset.mem_biUnion.mpr ((twin_cover (F := F) n).imp fun _ h => ⟨Finset.mem_univ _, h⟩)
  refine (congrArg (fun I => (oLoc d ↦[I]{fullShare} (R : Buf (Elt F) (oLoc d)) : HP F)) hc.symm).trans ?_
  refine (pointsTo_biUnion Finset.univ (twinO (F := F) d) fun t _ t' _ h => twin_disjoint t t' h).trans ?_
  refine (bigSep_univ_prod _).trans ((bigSep_univ_prod _).trans ?_)
  unfold grid
  exact bigSep_congr fun c _ => bigSep_congr fun s _ => bigSep_fin8 fun g => winAt d (co c s) (wq (co c s) + g.val) R

theorem outs_todos (i : grid0.Coords) (R : Res F) : (outs d i R : HP F) ⊢ todos d i := by
  have h : ∀ g, winAt d i (wq i + g) R ⊢ (todo d i g : HP F) := fun g => by
    unfold todo; iintro H; iexists R; iexact H
  unfold outs todos
  exact BIClass.sep_mono (BIClass.sep_mono (h 0) (h 1)) (BIClass.sep_mono (BIClass.sep_mono (h 2) (h 3)) (BIClass.sep_mono (BIClass.sep_mono (h 4) (h 5)) (BIClass.sep_mono (h 6) (h 7))))

variable (X : Dev nD → Tab 4 4096 (F .f32)) (C Sg : Dev nD → Tab 28 16 (F .f32))

/-- What the tasks do not take of the inputs. -/
def left : HP F :=
  iprop((xLoc d ↦{Transfers.shareDrop fullShare (NC (F := F) * NS (F := F))} (X d : Buf (Elt F) (xLoc d)))
    ∗ (cLoc d ↦{Transfers.shareDrop fullShare (NC (F := F) * NS (F := F))} (C d : Buf (Elt F) (cLoc d)))
    ∗ (sLoc d ↦{Transfers.shareDrop fullShare (NC (F := F) * NS (F := F))} (Sg d : Buf (Elt F) (sLoc d))))

/-- The tasks' inputs, gathered. -/
theorem ins_grid : (grid (F := F) fun c s => ins d (co c s) (X d) (C d) (Sg d) (shr (co c s)))
    = iprop((grid (F := F) fun c s => xLoc d ↦{shr (co c s)} (X d : Buf (Elt F) (xLoc d)))
      ∗ (grid (F := F) fun c s => cLoc d ↦{shr (co c s)} (C d : Buf (Elt F) (cLoc d)))
      ∗ (grid (F := F) fun c s => sLoc d ↦{shr (co c s)} (Sg d : Buf (Elt F) (sLoc d)))) := by
  rw [← grid_sep, ← grid_sep]; rfl

/-- The arrays to the call. -/
theorem to_call (R : Res F) :
    iprop((xLoc d ↦{fullShare} (X d : Buf (Elt F) (xLoc d))) ∗ (cLoc d ↦{fullShare} (C d : Buf (Elt F) (cLoc d)))
      ∗ (sLoc d ↦{fullShare} (Sg d : Buf (Elt F) (sLoc d))) ∗ (oLoc d ↦{fullShare} (R : Buf (Elt F) (oLoc d))))
    ⊢ iprop((bigSep Finset.univ fun c : Fin (NC (F := F)) => (P X C Sg).st 0 d c) ∗ left d X C Sg) := by
  have e : (bigSep Finset.univ fun c : Fin (NC (F := F)) => (P X C Sg).st 0 d c)
      = iprop((grid (F := F) fun c s => ins d (co c s) (X d) (C d) (Sg d) (shr (co c s))) ∗ grid (F := F) fun c s => todos d (co c s)) := by
    rw [← grid_sep]; rfl
  rw [e, ins_grid, deal_out]
  unfold left
  iintro ⟨HX, HC, HS, HR⟩
  ihave HX := (deal_read (F := F) (xLoc d) (X d)).1 $$ HX
  ihave HC := (deal_read (F := F) (cLoc d) (C d)).1 $$ HC
  ihave HS := (deal_read (F := F) (sLoc d) (Sg d)).1 $$ HS
  icases HX with ⟨X0, X1⟩
  icases HC with ⟨C0, C1⟩
  icases HS with ⟨S0, S1⟩
  isplitl [X1 C1 S1 HR]
  · isplitl [X1 C1 S1]
    · isplitl [X1]; · iexact X1
      isplitl [C1]; · iexact C1
      iexact S1
    iapply (grid_mono fun c s => outs_todos d (co c s) R)
    iexact HR
  isplitl [X0]; · iexact X0
  isplitl [C0]; · iexact C0
  iexact S0

/-- The arrays from the call. -/
theorem from_call :
    iprop((bigSep Finset.univ fun c : Fin (NC (F := F)) => (P X C Sg).dn 0 d c) ∗ left d X C Sg)
    ⊢ iprop((xLoc d ↦{fullShare} (X d : Buf (Elt F) (xLoc d))) ∗ (cLoc d ↦{fullShare} (C d : Buf (Elt F) (cLoc d)))
      ∗ (sLoc d ↦{fullShare} (Sg d : Buf (Elt F) (sLoc d))) ∗ (oLoc d ↦{fullShare} (result (X d) (C d) (Sg d) : Buf (Elt F) (oLoc d)))) := by
  have e : (bigSep Finset.univ fun c : Fin (NC (F := F)) => (P X C Sg).dn 0 d c)
      = iprop((grid (F := F) fun c s => ins d (co c s) (X d) (C d) (Sg d) (shr (co c s))) ∗ grid (F := F) fun c s => outs d (co c s) (result (X d) (C d) (Sg d))) := by
    rw [← grid_sep]; rfl
  rw [e, ins_grid, deal_out]
  unfold left
  iintro ⟨⟨⟨X1, C1, S1⟩, HR⟩, X0, C0, S0⟩
  isplitl [X0 X1]
  · iapply (deal_read (F := F) (xLoc d) (X d)).2
    isplitl [X0] <;> iassumption
  isplitl [C0 C1]
  · iapply (deal_read (F := F) (cLoc d) (C d)).2
    isplitl [C0] <;> iassumption
  isplitl [S0 S1]
  · iapply (deal_read (F := F) (sLoc d) (Sg d)).2
    isplitl [S0] <;> iassumption
  iexact HR

end Cert.Proof.Tile

end
-- ==== Proof.Launch.lean ====
/-
  The whole program's run: the host's operations around the call, the launch of the call's tasks, and what the memory
  holds at the end.
-/
module

public import proofs.«01_k».proof.Proof.Deal

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

/-! ## What the launch starts from -/

def u₀ : UU := (initOf (K (F := F)).hsCells (K (F := F)).hsToks, 1)

theorem bigSep_emp' {I : Type} (s : Finset I) : (bigSep s fun _ => iprop(emp)) = (iprop(emp) : HP F) := bigSep_emp_const s

theorem hu₀ (X : Dev nD → Tab 4 4096 (F .f32)) (C Sg : Dev nD → Tab 28 16 (F .f32)) : (ownU (u₀ (F := F)) : HP F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X C Sg).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : HP F)) = iprop(emp) from by
    rw [bigSep_congr fun _ _ => bigSep_emp' _, bigSep_emp']]
  iempintro

/-! ## The host's operations -/

/-- A host buffer. -/
abbrev hb (b : Ref sig .tc) : DevRef τ sig := Proc.devRef .tc b

abbrev op0 : HloOp τ sig (Elt F) := StableHlo.unary main_arg0 main_v0 ((transpose S4x4096 [1, 0] · transposes_S4096x4_S4x4096_1_0) : (⟨S4096x4, .f32⟩ : BufTy).Contents (Elt F) → (⟨S4x4096, .f32⟩ : BufTy).Contents (Elt F))
abbrev op1 : HloOp τ sig (Elt F) := StableHlo.reshape main_arg1 main_v1 (rfl : (.f32 : EltTy) = .f32) shapeCasts_S4x7_S28x1
abbrev op2 : HloOp τ sig (Elt F) := StableHlo.unary main_v1 main_v2 (broadcastInDim S28x16 ![0, 1] bcast_S28x1_S28x16_0_1 : (⟨S28x1, .f32⟩ : BufTy).Contents (Elt F) → (⟨S28x16, .f32⟩ : BufTy).Contents (Elt F))
abbrev op3 : HloOp τ sig (Elt F) := StableHlo.reshape main_arg2 main_v3 (rfl : (.f32 : EltTy) = .f32) shapeCasts_S4x7_S28x1
abbrev op4 : HloOp τ sig (Elt F) := StableHlo.unary main_v3 main_v4 (broadcastInDim S28x16 ![0, 1] bcast_S28x1_S28x16_0_1 : (⟨S28x1, .f32⟩ : BufTy).Contents (Elt F) → (⟨S28x16, .f32⟩ : BufTy).Contents (Elt F))
abbrev op6 : HloOp τ sig (Elt F) := StableHlo.reshape main_v5 main_v6 (rfl : (.f32 : EltTy) = .f32) shapeCasts_S9834496_S4096x2401

/-- The host's buffers. -/
def hostRefs : Finset (Ref sig .tc) :=
  {main_arg0, main_arg1, main_arg2, main_arg3, main_v0, main_v1, main_v2, main_v3, main_v4, main_v5, main_v6}
abbrev SH : Finset (DevRef τ sig) := hostRefs.map ⟨Proc.devRef .tc, Proc.devRef_injective _⟩

theorem mem_SH {b : Ref sig .tc} (h : b ∈ hostRefs) : hb b ∈ SH := Finset.mem_map_of_mem _ h

theorem held_SH (d : Dev nD) (W : Valuation τ sig (Elt F)) :
    (held (T d) SH W : HP F) = bigSep hostRefs fun b => ((SparseCore.T d).loc b ↦{fullShare} W (hb b)) := by
  unfold held SH
  rw [bigSep_map]; rfl

theorem unscopedBufs_eq (d : Dev nD) (W : (b : Ref sig .tc) → Buf (Elt F) ((d.tc : Thread nD τ).loc b)) :
    (unscopedBufs d W : HP F) = bigSep hostRefs fun b => ((SparseCore.T d).loc b ↦{fullShare} W b) := by
  unfold unscopedBufs
  rw [show (Finset.univ.filter fun b : Ref sig .tc => ¬ b.isScoped) = hostRefs by decide]

variable (m : (ℓ : Loc nD τ sig) → Buf (Elt F) ℓ) (ρ : Dev nD → PrngReg)

/-- The host's buffers at the launch, before the call, after it, and at the end. -/
def V0 (d : Dev nD) : Valuation τ sig (Elt F) := fun b => m (d, b)
def V5 (d : Dev nD) : Valuation τ sig (Elt F) := (op4 (F := F)).result ((op3 (F := F)).result ((op2 (F := F)).result ((op1 (F := F)).result ((op0 (F := F)).result (V0 m d)))))
/-- What the call reads. -/
def tX (d : Dev nD) : Tab 4 4096 (F .f32) := V5 m d (hb main_v0)
def tC (d : Dev nD) : Tab 28 16 (F .f32) := V5 m d (hb main_v2)
def tS (d : Dev nD) : Tab 28 16 (F .f32) := V5 m d (hb main_v4)
/-- What it leaves. -/
def tR (d : Dev nD) : Res F := result (tX m d) (tC m d) (tS m d)
def V6 (d : Dev nD) : Valuation τ sig (Elt F) := Function.update (V5 m d) (hb main_v5) (tR m d)
def V7 (d : Dev nD) : Valuation τ sig (Elt F) := (op6 (F := F)).result (V6 m d)

theorem unscoped_held (d : Dev nD) : (unscopedBufs d (fun b => m ((SparseCore.T d).loc b)) : HP F) = held (T d) SH (V0 m d) := by
  rw [unscopedBufs_eq, held_SH]; rfl

/-- The call's arrays. -/
def callRefs : Finset (Ref sig .tc) := {main_v0, main_v2, main_v4, main_v5}

theorem held_call (d : Dev nD) (W : Valuation τ sig (Elt F)) :
    (held (T d) SH W : HP F) = iprop((((SparseCore.T d).loc main_v0 ↦{fullShare} W (hb main_v0)) ∗ ((SparseCore.T d).loc main_v2 ↦{fullShare} W (hb main_v2))
      ∗ ((SparseCore.T d).loc main_v4 ↦{fullShare} W (hb main_v4)) ∗ ((SparseCore.T d).loc main_v5 ↦{fullShare} W (hb main_v5)))
      ∗ bigSep (hostRefs \ callRefs) fun b => ((SparseCore.T d).loc b ↦{fullShare} W (hb b))) := by
  rw [held_SH, bigSep_sdiff_split (s := hostRefs) (t := callRefs) (by decide)]
  unfold callRefs
  rw [SparseCore.bigSep_insert' (by decide), SparseCore.bigSep_insert' (by decide), SparseCore.bigSep_insert' (by decide), bigSep_singleton]
  rfl

theorem V6_v5 (d : Dev nD) : V6 m d (hb main_v5) = tR m d := Function.update_self _ _ _
theorem V6_ne (d : Dev nD) {b : Ref sig .tc} (h : b ≠ main_v5) : V6 m d (hb b) = V5 m d (hb b) :=
  Function.update_of_ne (fun e => h (Proc.devRef_injective _ e)) _ _

theorem held_V6_rest (d : Dev nD) :
    (bigSep (hostRefs \ callRefs) fun b => ((SparseCore.T d).loc b ↦{fullShare} V5 m d (hb b)) : HP F)
      = bigSep (hostRefs \ callRefs) fun b => ((SparseCore.T d).loc b ↦{fullShare} V6 m d (hb b)) :=
  bigSep_congr fun b hb' => by rw [V6_ne m d (show b ≠ main_v5 from fun e => by subst e; revert hb'; decide)]

theorem sub0 : (op0 (F := F)).bufs ⊆ SH := show ({hb main_arg0, hb main_v0} : Finset (DevRef τ sig)) ⊆ SH by decide
theorem sub1 : (op1 (F := F)).bufs ⊆ SH := show ({hb main_arg1, hb main_v1} : Finset (DevRef τ sig)) ⊆ SH by decide
theorem sub2 : (op2 (F := F)).bufs ⊆ SH := show ({hb main_v1, hb main_v2} : Finset (DevRef τ sig)) ⊆ SH by decide
theorem sub3 : (op3 (F := F)).bufs ⊆ SH := show ({hb main_arg2, hb main_v3} : Finset (DevRef τ sig)) ⊆ SH by decide
theorem sub4 : (op4 (F := F)).bufs ⊆ SH := show ({hb main_v3, hb main_v4} : Finset (DevRef τ sig)) ⊆ SH by decide
theorem sub6 : (op6 (F := F)).bufs ⊆ SH := show ({hb main_v5, hb main_v6} : Finset (DevRef τ sig)) ⊆ SH by decide

/-- What @main leaves: its buffers at the end's contents. -/
abbrev FIN (d : Dev nD) : HP F := held (T d) SH (V7 m d)

/-- The call's arrays, to the call and from it. -/
theorem call_in (d : Dev nD) : iprop(((SparseCore.T d).loc main_v0 ↦{fullShare} V5 m d (hb main_v0)) ∗ ((SparseCore.T d).loc main_v2 ↦{fullShare} V5 m d (hb main_v2))
      ∗ ((SparseCore.T d).loc main_v4 ↦{fullShare} V5 m d (hb main_v4)) ∗ ((SparseCore.T d).loc main_v5 ↦{fullShare} V5 m d (hb main_v5)))
    ⊢ iprop((bigSep Finset.univ fun c : Fin (NC (F := F)) => (P (tX m) (tC m) (tS m)).st 0 d c) ∗ left d (tX m) (tC m) (tS m)) :=
  to_call d (tX m) (tC m) (tS m) (V5 m d (hb main_v5))
theorem call_out (d : Dev nD) : iprop((bigSep Finset.univ fun c : Fin (NC (F := F)) => (P (tX m) (tC m) (tS m)).dn 0 d c) ∗ left d (tX m) (tC m) (tS m))
    ⊢ iprop(((SparseCore.T d).loc main_v0 ↦{fullShare} V5 m d (hb main_v0)) ∗ ((SparseCore.T d).loc main_v2 ↦{fullShare} V5 m d (hb main_v2))
      ∗ ((SparseCore.T d).loc main_v4 ↦{fullShare} V5 m d (hb main_v4)) ∗ ((SparseCore.T d).loc main_v5 ↦{fullShare} V6 m d (hb main_v5))) := by
  rw [V6_v5]
  exact from_call d (tX m) (tC m) (tS m)

theorem hmain (κ : GSem nD τ sig → ℕ) (d : Dev nD) :
    iprop((K (F := F)).ctx EH (P (tX m) (tC m) (tS m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := SH) sub0 (V := V0 m d)) $$ [Hb Hheld]
  · isplitl [Hb] <;> iassumption
  iintro ⟨Hb, Hheld⟩
  rw [wp_ret]; imodintro
  iapply (wp_hlo_within 𝒱 (SparseCore.T d) none Set.univ (op := op1) (S := SH) sub1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := SH) sub2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := SH) sub3
    (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := SH) sub4
    (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  ihave Hh := (show (held (T d) SH ((op4 (F := F)).result ((op3 (F := F)).result ((op2 (F := F)).result ((op1 (F := F)).result ((op0 (F := F)).result (V0 m d)))))) : HP F) ⊢ _
    from Entails.of_eq (held_call (F := F) d (V5 m d))) $$ Hheld
  icases Hh with ⟨Hcall, Hrest⟩
  ihave Hcall := (call_in m d) $$ Hcall
  icases Hcall with ⟨Hgo, Hleft⟩
  iapply ((K (F := F)).wp_run (D (F := F)) 𝒱 (EH := EH) (P := P (tX m) (tC m) (tS m)) κ d 0) $$ [-]
  isplitr; · iexact Hctx
  isplitl [Hst]; · iexact Hst
  isplitl [Hgo]; · iexact Hgo
  iintro ⟨Hst, Hdn⟩
  ihave Hcall := (call_out m d) $$ [Hdn Hleft]
  · isplitl [Hdn] <;> iassumption
  iapply (wp_hlo_within 𝒱 (SparseCore.T d) none Set.univ (op := op6) (S := SH) sub6 (V := V6 m d)) $$ [Hb Hcall Hrest]
  · isplitl [Hb]; · iexact Hb
    rw [held_call, V6_ne m d (show main_v0 ≠ main_v5 by decide), V6_ne m d (show main_v2 ≠ main_v5 by decide), V6_ne m d (show main_v4 ≠ main_v5 by decide),
      ← held_V6_rest]
    isplitl [Hcall]; · iexact Hcall
    iexact Hrest
  iintro ⟨Hb, Hheld⟩
  rw [wp_ret]; imodintro; imodintro
  isplitl [Hst]; · iexact Hst
  isplitl [Hheld]; · iexact Hheld
  isplitl [Hb] <;> iassumption

/-! ## The end -/

def fq (d : Dev nD) (s' : Phys nD τ sig (Elt F)) : Prop := ∀ b ∈ hostRefs, s'.mem.mem ((SparseCore.T d).loc b) = V7 m d (hb b)

theorem hfin (d : Dev nD) (s' : Phys nD τ sig (Elt F)) : iprop(FIN m d ∗ SI s') ⊢ (⌜fq m d s'⌝ : HP F) := by
  unfold fq FIN
  rw [held_SH]
  refine (Laws.forall_intro fun b => ?_).trans Laws.pure_forall.2
  refine (Laws.forall_intro fun hb' => ?_).trans Laws.pure_forall.2
  have e : (bigSep hostRefs fun b => ((SparseCore.T d).loc b ↦{fullShare} V7 m d (hb b)) : HP F)
      = iprop(((SparseCore.T d).loc b ↦{fullShare} V7 m d (hb b)) ∗ bigSep (hostRefs \ {b}) fun b => ((SparseCore.T d).loc b ↦{fullShare} V7 m d (hb b))) := by
    rw [bigSep_sdiff_split (s := hostRefs) (t := {b}) (Finset.singleton_subset_iff.mpr hb'), bigSep_singleton]; rfl
  rw [e]
  iintro ⟨⟨Hx, -⟩, HSI⟩
  ihave H := (SI_pointsTo_agree (st := s') (ℓ := (SparseCore.T d).loc b) (I := Finset.univ) (q := fullShare) (f := V7 m d (hb b))) $$ [HSI Hx]
  · isplitl [HSI] <;> iassumption
  icases H with %hx
  ipureintro; exact funext fun i => hx i (Finset.mem_univ i)

def QC : PUnit × MemSt nD τ sig (Elt F) → Prop := fun r => (∀ d : Dev nD, ∀ b ∈ hostRefs, r.2.mem ((SparseCore.T d).loc b) = V7 m d (hb b)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tX m) (tC m) (tS m)) (A := ∅) facts v₀
    (fun q hq => match q with | 0 => nomatch hq)
    (fun q _ => match q with | 0 => tileObl (tX m) (tC m) (tS m))
    (fun q _ => match q with | 0 => SparseCore.Cfg.VecSplit.of_plain (vecSplit (tX m) (tC m) (tS m)))
    m ρ main (fun _ => iprop(emp)) (FIN m) (u₀ (F := F)) (sep_elim_left.trans (hu₀ (tX m) (tC m) (tS m))) (hmain m ρ) (fq m) (hfin m) (QC m) (fun _ h hz => ⟨h, hz⟩)

end Cert.Proof.Tile

end
-- ==== Proof.Frames.lean ====
/-
  The frames of the program: what its run leaves in the arguments, and that every counter ends at zero.
-/
module

public import proofs.«01_k».proof.Proof.Launch
public import proofs.«01_k».proof.Defs
public import proofs.«01_k».proof.Proof.Gen.Kernel

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

variable {F : FTy → Type} [FloatOps F]
variable (m : (ℓ : Loc nD τ sig) → Buf (Elt F) ℓ) (ρ : Dev nD → PrngReg)

/-- A buffer that no operation before the call writes holds its launch contents when the call is made. -/
theorem V5_of_ne (d : Dev nD) {b : Ref sig .tc} (h0 : b ≠ main_v0) (h1 : b ≠ main_v1) (h2 : b ≠ main_v2) (h3 : b ≠ main_v3) (h4 : b ≠ main_v4) :
    V5 m d (hb b) = m ((d.tc : Thread nD τ).loc b) := by
  unfold V5
  rw [unary_result_ne (h := h4), reshape_result_ne (h := h3), unary_result_ne (h := h2), reshape_result_ne (h := h1), unary_result_ne (h := h0)]
  rfl

/-- A buffer that no operation writes ends at its launch contents. -/
theorem V7_of_ne (d : Dev nD) {b : Ref sig .tc} (h0 : b ≠ main_v0) (h1 : b ≠ main_v1) (h2 : b ≠ main_v2) (h3 : b ≠ main_v3) (h4 : b ≠ main_v4)
    (h5 : b ≠ main_v5) (h6 : b ≠ main_v6) : V7 m d (hb b) = m ((d.tc : Thread nD τ).loc b) := by
  unfold V7
  rw [reshape_result_ne (h := h6), V6_ne m d h5, V5_of_ne m d h0 h1 h2 h3 h4]

/-- What the run leaves in the program's arguments. -/
theorem end_args {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.1 c main_arg0 (by decide)).trans (V7_of_ne m c (by decide) (by decide) (by decide) (by decide) (by decide) (by decide) (by decide)),
    (h.1 c main_arg1 (by decide)).trans (V7_of_ne m c (by decide) (by decide) (by decide) (by decide) (by decide) (by decide) (by decide)),
    (h.1 c main_arg2 (by decide)).trans (V7_of_ne m c (by decide) (by decide) (by decide) (by decide) (by decide) (by decide) (by decide)),
    (h.1 c main_arg3 (by decide)).trans (V7_of_ne m c (by decide) (by decide) (by decide) (by decide) (by decide) (by decide) (by decide))⟩

/-- The idealized program's frame. -/
theorem frame_kernelIdeal : Cert.quiescent_KernelIdeal := fun m ρ _ =>
  (θ_run Cert.KernelIdeal.defs _ _).mono (fun _ h => ⟨fun c => end_args m h c, h.2⟩) (run_main (F := Ideal) m ρ)

/-- The program's frame: it is the idealized program's text, read at the words. -/
theorem frame_kernel : Cert.quiescent_Kernel := fun m ρ _ =>
  (θ_run Cert.KernelIdeal.defs _ _).mono (fun _ h => ⟨fun c => end_args m h c, h.2⟩) (run_main (F := Bits) m ρ)

end Cert.Proof.Tile

end
-- ==== Proof.KernelValue.lean ====
/-
  What the program's result holds, in terms of its arguments.
-/
module

public import proofs.«01_k».proof.Proof.Frames
public import Idealize.ShloMosaic.Lib.Pipeline.Value

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

variable {F : FTy → Type} [FloatOps F]
variable (m : (ℓ : Loc nD τ sig) → Buf (Elt F) ℓ)

/-- The program's arguments. -/
abbrev aX (d : Dev nD) : S4096x4.Idx → F .f32 := m ((d.tc : Thread nD τ).loc main_arg0)
abbrev aC (d : Dev nD) : S4x7.Idx → F .f32 := m ((d.tc : Thread nD τ).loc main_arg1)
abbrev aS (d : Dev nD) : S4x7.Idx → F .f32 := m ((d.tc : Thread nD τ).loc main_arg2)

theorem V0_apply (d : Dev nD) (b : Ref sig .tc) : V0 m d (hb b) = m ((d.tc : Thread nD τ).loc b) := rfl

/-- The call's first table is the inputs, transposed. -/
theorem tX_eq (d : Dev nD) : tX m d = transpose S4x4096 [1, 0] (aX m d) transposes_S4096x4_S4x4096_1_0 := by
  unfold tX V5
  rw [unary_result_ne (h := show main_v0 ≠ main_v4 by decide), reshape_result_ne (h := show main_v0 ≠ main_v3 by decide),
    unary_result_ne (h := show main_v0 ≠ main_v2 by decide), reshape_result_ne (h := show main_v0 ≠ main_v1 by decide), unary_result]
  rfl

/-- Its second is the centers, a lane each. -/
theorem tC_eq (d : Dev nD) : tC m d = broadcastInDim S28x16 ![0, 1] bcast_S28x1_S28x16_0_1 (shapeCast S28x1 (aC m d) shapeCasts_S4x7_S28x1) := by
  unfold tC V5
  rw [unary_result_ne (h := show main_v2 ≠ main_v4 by decide), reshape_result_ne (h := show main_v2 ≠ main_v3 by decide), unary_result,
    reshape_result, unary_result_ne (h := show main_arg1 ≠ main_v0 by decide)]
  rfl

/-- Its third is the widths, a lane each. -/
theorem tS_eq (d : Dev nD) : tS m d = broadcastInDim S28x16 ![0, 1] bcast_S28x1_S28x16_0_1 (shapeCast S28x1 (aS m d) shapeCasts_S4x7_S28x1) := by
  unfold tS V5
  rw [unary_result, reshape_result, unary_result_ne (h := show main_arg2 ≠ main_v2 by decide),
    reshape_result_ne (h := show main_arg2 ≠ main_v1 by decide), unary_result_ne (h := show main_arg2 ≠ main_v0 by decide)]
  rfl

/-- A transposed input. -/
theorem tX_apply (d : Dev nD) (v : Fin 4) (row : Fin 4096) : tX m d (ix2 v row) = aX m d (ix2 row v) := by
  rw [tX_eq]
  exact transpose_apply [1, 0] (aX m d) transposes_S4096x4_S4x4096_1_0 (ix2 v row) (ix2 row v) fun b => by
    match b with
    | ⟨0, _⟩ => rfl
    | ⟨1, _⟩ => rfl

/-- A parameter spread over the lanes. -/
theorem spread_apply (C : S4x7.Idx → F .f32) (v : Fin 4) (k : Fin 7) (l : Fin 16) :
    broadcastInDim S28x16 ![0, 1] bcast_S28x1_S28x16_0_1 (shapeCast S28x1 C shapeCasts_S4x7_S28x1) (ix2 (mrow v k) l) = C (ix2 v k) := by
  rw [broadcastInDim_apply ![0, 1] bcast_S28x1_S28x16_0_1 _ (ix2 (mrow v k) l) (ix2 (mrow v k) 0) fun a => by
    match a with
    | ⟨0, _⟩ => rfl
    | ⟨1, _⟩ => rfl]
  exact shapeCast_apply C shapeCasts_S4x7_S28x1 (ix2 (mrow v k) 0) (ix2 v k) (by
    rw [Shape.rowMajor_val_two, Shape.rowMajor_val_two]
    show v.val * 7 + k.val = (v.val * 7 + k.val) * 1 + 0
    omega)

/-- The weight of a membership, from the arguments. -/
def wtA (X : S4096x4.Idx → F .f32) (C Sg : S4x7.Idx → F .f32) (v : Fin 4) (k : Fin 7) (row : Fin 4096) : F .f32 :=
  mem1 (X (ix2 row v)) (C (ix2 v k)) (rec1 (Sg (ix2 v k)))

/-- The weight of a rule, from the arguments. -/
def ruleA (X : S4096x4.Idx → F .f32) (C Sg : S4x7.Idx → F .f32) (row : Fin 4096) (r : Fin 2401) : F .f32 :=
  min1 (min1 (wtA X C Sg 0 ⟨r.val / 49 / 7, by omega⟩ row) (wtA X C Sg 1 ⟨r.val / 49 % 7, by omega⟩ row))
    (min1 (wtA X C Sg 2 ⟨r.val % 49 / 7, by omega⟩ row) (wtA X C Sg 3 ⟨r.val % 49 % 7, by omega⟩ row))

theorem wt_args (d : Dev nD) (v : Fin 4) (k : Fin 7) (row : Fin 4096) :
    wt (tX m d) (tC m d) (tS m d) v k row = wtA (aX m d) (aC m d) (aS m d) v k row := by
  unfold wt wtA
  rw [tX_apply, tC_eq, tS_eq, spread_apply, spread_apply]

theorem rule_args (d : Dev nD) (row : Fin 4096) (r : Fin 2401) :
    ruleW (tX m d) (tC m d) (tS m d) row r = ruleA (aX m d) (aC m d) (aS m d) row r := by
  unfold ruleW ruleA
  rw [wt_args, wt_args, wt_args, wt_args]

/-- The program's result at a row and a rule is that rule's weight there. -/
theorem V7_v6 (d : Dev nD) (row : Fin 4096) (r : Fin 2401) :
    (V7 m d (hb main_v6) : S4096x2401.Idx → F .f32) (ix2 row r) = ruleA (aX m d) (aC m d) (aS m d) row r := by
  unfold V7
  rw [reshape_result, V6_v5, ← rule_args]
  refine (shapeCast_apply (tR m d) shapeCasts_S9834496_S4096x2401 (ix2 row r) (ix1 ⟨row.val * 2401 + r.val, by omega⟩) (by
    rw [Shape.rowMajor_val_one, Shape.rowMajor_val_two]; rfl)).trans ?_
  unfold tR result
  exact congrArg₂ (ruleW (tX m d) (tC m d) (tS m d)) (Fin.ext (by show (row.val * 2401 + r.val) / 2401 = row.val; omega))
    (Fin.ext (by show (row.val * 2401 + r.val) % 2401 = r.val; omega))

end Cert.Proof.Tile

end
-- ==== Proof.RefValue.lean ====
/-
  The reference's result, read at one input row and one rule, at the ideal values: where the rule's four columns are
  in range, it is the least of the four memberships the columns name. Its columns are counted across the four
  variables' seven memberships: column `7 v + k` is the `k`-th membership of variable `v`.
-/
module

public import proofs.«01_k».proof.Proof.Gen.ReferenceIdeal.Run
public import Idealize.ShloMosaic.Lib.ValueIdx
public import Idealize.ShloMosaic.Lib.Pipeline.Value
public import Idealize.ShloMosaic.Lib.StableHlo.Predicate
public import Idealize.ShloMosaic.PureOps.Ideal.Laws

@[expose] public section

noncomputable section

namespace Cert.Proof.Ref

open Cert.ReferenceIdeal Cert.ReferenceIdeal.Gen
open Idealize.ShloMosaic Idealize.ShloMosaic.ValueIdx Idealize.ShloMosaic.TcCoe
open Idealize.ShloMosaic.StableHlo.Predicate

/-- One membership: the bell of the distance from the center in widths. -/
def mval (x c s : EReal) : EReal :=
  Ideal.exp (Ideal.ofBits .f32 0xBF000000#32 * (Ideal.div (x - c) s * Ideal.div (x - c) s))

/-- One input column spread across seven. -/
abbrev spreadCol (X : FVec Ideal S4096x4 .f32) (v : Nat) (h : S4096x4.Slices ![0, v] S4096x1) : FVec Ideal S4096x7 .f32 :=
  broadcastInDim S4096x7 ![0, 1] bcast_S4096x1_S4096x7_0_1 (extractStridedSlice S4096x1 ![0, v] X h)

/-- One parameter row spread down the inputs. -/
abbrev spreadRow (C : FVec Ideal S4x7 .f32) (v : Nat) (h : S4x7.Slices ![v, 0] S1x7) : FVec Ideal S4096x7 .f32 :=
  broadcastInDim S4096x7 ![0, 1] bcast_S1x7_S4096x7_0_1
    (broadcastInDim S1x7 ![1] bcast_S7_S1x7_1 (shapeCast _ (extractStridedSlice S1x7 ![v, 0] C h) shapeCasts_S1x7_S7))

/-- One variable's seven memberships at every input. -/
abbrev block (X : FVec Ideal S4096x4 .f32) (C S : FVec Ideal S4x7 .f32) (v : Nat) (h : S4096x4.Slices ![0, v] S4096x1)
    (h' : S4x7.Slices ![v, 0] S1x7) : FVec Ideal S4096x7 .f32 :=
  Host.exp (mulf (broadcastInDim S4096x7 ![] bcast_S_S4096x7 (constant S_ .f32 0xBF000000#32))
    (mulf (Host.divf (subf (spreadCol X v h) (spreadRow C v h')) (spreadRow S v h'))
      (Host.divf (subf (spreadCol X v h) (spreadRow C v h')) (spreadRow S v h'))))

/-- The spread column at an index. -/
theorem spreadCol_apply (X : FVec Ideal S4096x4 .f32) (v : Nat) (hv : v < 4) (h : S4096x4.Slices ![0, v] S4096x1)
    (b : Fin 4096) (k : Fin 7) : spreadCol X v h (ix2 b k) = X (ix2 b ⟨v, hv⟩) := by
  rw [spreadCol, broadcastInDim_apply _ _ _ _ (ix2 b 0) (fun a => match a with | ⟨0, _⟩ => rfl | ⟨1, _⟩ => rfl)]
  exact extractStridedSlice_apply _ _ _ _ _ (fun a => match a with | ⟨0, _⟩ => (Nat.zero_add _).symm | ⟨1, _⟩ => rfl)

/-- The spread row at an index. -/
theorem spreadRow_apply (C : FVec Ideal S4x7 .f32) (v : Nat) (hv : v < 4) (h : S4x7.Slices ![v, 0] S1x7)
    (b : Fin 4096) (k : Fin 7) : spreadRow C v h (ix2 b k) = C (ix2 ⟨v, hv⟩ k) := by
  rw [spreadRow, broadcastInDim_apply _ _ _ _ (ix2 0 k) (fun a => match a with | ⟨0, _⟩ => rfl | ⟨1, _⟩ => rfl),
    broadcastInDim_apply _ _ _ _ (ix1 k) (fun a => match a with | ⟨0, _⟩ => rfl),
    shapeCast_apply _ _ _ (ix2 0 k) (by rw [Shape.rowMajor_val_two, Shape.rowMajor_val_one]; exact (by simp))]
  exact extractStridedSlice_apply _ _ _ _ _ (fun a => match a with | ⟨0, _⟩ => rfl | ⟨1, _⟩ => (Nat.zero_add _).symm)

/-- A variable's memberships at an index. -/
theorem block_apply (X : FVec Ideal S4096x4 .f32) (C S : FVec Ideal S4x7 .f32) (v : Nat) (hv : v < 4)
    (h : S4096x4.Slices ![0, v] S4096x1) (h' : S4x7.Slices ![v, 0] S1x7) (b : Fin 4096) (k : Fin 7) :
    block X C S v h h' (ix2 b k) = mval (X (ix2 b ⟨v, hv⟩)) (C (ix2 ⟨v, hv⟩ k)) (S (ix2 ⟨v, hv⟩ k)) := by
  have e : block X C S v h h' (ix2 b k)
      = mval (spreadCol X v h (ix2 b k)) (spreadRow C v h' (ix2 b k)) (spreadRow S v h' (ix2 b k)) := rfl
  rw [e, spreadCol_apply X v hv, spreadRow_apply C v hv, spreadRow_apply S v hv]

/-- The four variables' memberships, listed. -/
abbrev blocks (X : FVec Ideal S4096x4 .f32) (C S : FVec Ideal S4x7 .f32) : List ((s : Shape) × (s.Idx → Ideal .f32)) :=
  [⟨S4096x7, block X C S 0 slices_S4096x4_S4096x1_0_0 slices_S4x7_S1x7_0_0⟩,
   ⟨S4096x7, block X C S 1 slices_S4096x4_S4096x1_0_1 slices_S4x7_S1x7_1_0⟩,
   ⟨S4096x7, block X C S 2 slices_S4096x4_S4096x1_0_2 slices_S4x7_S1x7_2_0⟩,
   ⟨S4096x7, block X C S 3 slices_S4096x4_S4096x1_0_3 slices_S4x7_S1x7_3_0⟩]

/-- All the memberships side by side. -/
abbrev table (X : FVec Ideal S4096x4 .f32) (C S : FVec Ideal S4x7 .f32) : FVec Ideal S4096x28 .f32 :=
  concatenate S4096x28 1 (blocks X C S) concatenates_S4096x7_S4096x7_S4096x7_S4096x7_S4096x28_d1

/-- The memberships side by side, read at column `7 v + k`. -/
theorem table_apply (X : FVec Ideal S4096x4 .f32) (C S : FVec Ideal S4x7 .f32) (b : Fin 4096) (v : Fin 4) (k : Fin 7)
    (q : Fin 28) (hq : q.val = 7 * v.val + k.val) :
    table X C S (ix2 b q) = mval (X (ix2 b v)) (C (ix2 v k)) (S (ix2 v k)) := by
  have key : ∀ (hk : v.val < 4) (h : S4096x4.Slices ![0, v.val] S4096x1) (h' : S4x7.Slices ![v.val, 0] S1x7),
      (blocks X C S)[v.val]'hk = ⟨S4096x7, block X C S v.val h h'⟩ := by
    intro hk h h'
    match v with
    | ⟨0, _⟩ => rfl
    | ⟨1, _⟩ => rfl
    | ⟨2, _⟩ => rfl
    | ⟨3, _⟩ => rfl
  have h : S4096x4.Slices ![0, v.val] S4096x1 := (by decide : ∀ v : Fin 4, S4096x4.Slices ![0, v.val] S4096x1) v
  have h' : S4x7.Slices ![v.val, 0] S1x7 := (by decide : ∀ v : Fin 4, S4x7.Slices ![v.val, 0] S1x7) v
  refine (concatenate_apply_piece 1 (blocks X C S) concatenates_S4096x7_S4096x7_S4096x7_S4096x7_S4096x28_d1 (ix2 b q) v.val v.isLt
    S4096x7 (block X C S v.val h h') (key v.isLt h h') rfl (7 * v.val) ?_ (ix2 b k) ?_ ?_).trans
    (block_apply X C S v.val v.isLt h h' b k)
  · match v with
    | ⟨0, _⟩ => rfl
    | ⟨1, _⟩ => rfl
    | ⟨2, _⟩ => rfl
    | ⟨3, _⟩ => rfl
  · intro a ha
    match a with
    | ⟨0, _⟩ => rfl
    | ⟨1, _⟩ => exact absurd rfl ha
  · exact hq.symm

/-- The columns as the reference reads them: a negative one counted from the end. -/
abbrev cols (A : IVec S2401x4 32) : IVec S2401x4x1 32 :=
  broadcastInDim S2401x4x1 ![0, 1] bcast_S2401x4_S2401x4x1_0_1
    (select (cmpi .slt A (broadcastInDim S2401x4 ![] bcast_S_S2401x4 (constantI S_ 32 0#32)))
      (addi A (broadcastInDim S2401x4 ![] bcast_S_S2401x4 (constantI S_ 32 28#32))) A)

/-- A column in range is read as it is. -/
theorem cols_apply (A : IVec S2401x4 32) (r : Fin 2401) (c : Fin 4) (o : Fin 1) (h : (A (ix2 r c)).toNat < 28) :
    cols A (ix3 r c o) = A (ix2 r c) := by
  rw [cols, broadcastInDim_apply _ _ _ _ (ix2 r c) (fun a => match a with | ⟨0, _⟩ => rfl | ⟨1, _⟩ => rfl)]
  refine if_neg fun h0 => ?_
  have := (slt_iff_toNat (a := A (ix2 r c)) (b := 0#32) (by omega) (by decide)).mp h0
  exact absurd this (Nat.not_lt_zero _)

/-- The mask of the columns in range. -/
abbrev inRange (A : IVec S2401x4 32) : IVec S2401x4 1 :=
  Host.reduce IntOp.andi (andi (cmpi .sge (cols A) (broadcastInDim S2401x4x1 ![] bcast_S_S2401x4x1 (constantI S_ 32 0#32)))
      (cmpi .sle (cols A) (broadcastInDim S2401x4x1 ![0, 1, 2] bcast_S1x1x1_S2401x4x1_0_1_2
        (broadcastInDim S1x1x1 ![2] bcast_S1_S1x1x1_2 (constantI S1 32 27#32)))))
    (constantI S_ 1 1#1) reducesTo_S2401x4x1_S2401x4_d2 h_S_

/-- The mask at a column in range. -/
theorem inRange_apply (A : IVec S2401x4 32) (r : Fin 2401) (c : Fin 4) (h : (A (ix2 r c)).toNat < 28) :
    inRange A (ix2 r c) = 1#1 := by
  have hr : S2401x4x1.Reduces [2] S2401x4 := by decide
  rw [inRange, Host.reduce_eq_fold_single IntOp.andi _ _ _ hr]
  have hl : ∀ o : Fin 1, hr.lift (ix2 r c) o = ix3 r c o := fun o => funext fun a => Fin.ext
    (match a with | ⟨0, _⟩ => rfl | ⟨1, _⟩ => rfl | ⟨2, _⟩ => rfl)
  show IntOp.andi (IntOp.andi (IntOp.cmpi .sge (cols A (hr.lift (ix2 r c) (0 : Fin 1))) 0#32)
    (IntOp.cmpi .sle (cols A (hr.lift (ix2 r c) (0 : Fin 1))) 27#32)) 1#1 = 1#1
  rw [hl, cols_apply A r c 0 h,
    (sge_iff_toNat (a := A (ix2 r c)) (b := 0#32) (by omega) (by decide)).mpr (Nat.zero_le _),
    (sle_iff_toNat (a := A (ix2 r c)) (b := 27#32) (by omega) (by decide)).mpr (Nat.le_of_lt_succ h)]
  rfl

/-- The table read at the columns. -/
abbrev taken (Z : FVec Ideal S4096x28 .f32) (A : IVec S2401x4 32) : FVec Ideal S4096x2401x4 .f32 :=
  Host.gather gather_S4096x28_S2401x4x1_S4096x2401x4_0_1_n_n_1_2_40961 Z (cols A)

/-- The table read at a column in range. -/
theorem taken_apply (Z : FVec Ideal S4096x28 .f32) (A : IVec S2401x4 32) (b : Fin 4096) (r : Fin 2401) (c : Fin 4)
    (q : Fin 28) (h : (A (ix2 r c)).toNat = q.val) : taken Z A (ix3 b r c) = Z (ix2 b q) := by
  unfold taken Host.gather
  refine congrArg Z (funext fun a => Fin.ext ?_)
  show gather_S4096x28_S2401x4x1_S4096x2401x4_0_1_n_n_1_2_40961.start (ix3 b r c) (cols A) a
    + gather_S4096x28_S2401x4x1_S4096x2401x4_0_1_n_n_1_2_40961.batchCoord (ix3 b r c) a
    + gather_S4096x28_S2401x4x1_S4096x2401x4_0_1_n_n_1_2_40961.offCoord (ix3 b r c) a = _
  have h01 : a = 0 ∨ a = 1 := by
    match a with
    | ⟨0, _⟩ => exact Or.inl rfl
    | ⟨1, _⟩ => exact Or.inr rfl
  rw [GatherDims.batchCoord_eq_zero _ _ _ (by exact List.not_mem_nil), Nat.add_zero]
  rcases h01 with rfl | rfl
  · have hs : gather_S4096x28_S2401x4x1_S4096x2401x4_0_1_n_n_1_2_40961.start (ix3 b r c) (cols A) 0 = 0 := by
      unfold GatherDims.start
      exact dif_neg (by decide)
    rw [hs, Nat.zero_add]
    unfold GatherDims.offCoord
    rw [dif_pos (by decide)]
    rfl
  · rw [GatherDims.offCoord_eq_zero _ _ _ (fun h => ((GatherDims.mem_sKept _ _).mp h).1 (List.mem_singleton.mpr rfl)),
      Nat.add_zero]
    unfold GatherDims.start
    rw [dif_pos (show (1 : Fin 2) ∈ gather_S4096x28_S2401x4x1_S4096x2401x4_0_1_n_n_1_2_40961.startIndexMap from List.mem_singleton.mpr rfl)]
    have hsi : gather_S4096x28_S2401x4x1_S4096x2401x4_0_1_n_n_1_2_40961.siIdx (ix3 b r c)
        ⟨List.idxOf (1 : Fin 2) gather_S4096x28_S2401x4x1_S4096x2401x4_0_1_n_n_1_2_40961.startIndexMap,
          List.idxOf_lt_length_iff.2 (List.mem_singleton.mpr rfl)⟩ = ix3 r c 0 := by
      funext d; refine Fin.ext ?_
      match d with
      | ⟨0, _⟩ => rfl
      | ⟨1, _⟩ => rfl
      | ⟨2, _⟩ => rfl
    have hq := q.isLt
    rw [hsi, cols_apply A r c 0 (by omega), toInt_eq_toNat_of_lt (by omega), h]
    show min ((q.val : Int).toNat) 27 = q.val
    omega

/-- What the reference leaves, as one term of its arguments. -/
abbrev out (X : FVec Ideal S4096x4 .f32) (C S : FVec Ideal S4x7 .f32) (A : IVec S2401x4 32) : FVec Ideal S4096x2401 .f32 :=
  Host.reduce FloatOps.minimumf
    (select (broadcastInDim S4096x2401x4 ![1, 2] bcast_S2401x4_S4096x2401x4_1_2 (inRange A)) (taken (table X C S) A)
      (broadcastInDim S4096x2401x4 ![] bcast_S_S4096x2401x4 (constant S_ .f32 0x7FC00000#32)))
    (constant S_ .f32 0x7F800000#32) reducesTo_S4096x2401x4_S4096x2401_d2 h_S_

/-- A selection where its mask is set. -/
theorem pick {s : Shape} {α : Type} (c : IVec s 1) (x y : s.Idx → α) (i : s.Idx) (h : c i = 1#1) : select c x y i = x i := if_pos h

/-- A fold over four coordinates, written out. -/
theorem fold_four {α : Type} (f : α → α → α) [Std.Commutative f] [Std.Associative f] (b : α) (g : Fin 4 → α) :
    (Finset.univ : Finset (Fin 4)).fold f b g = f (g 0) (f (g 1) (f (g 2) (f (g 3) b))) := rfl

/-- The pattern of the greatest value. -/
theorem ofBits_top : Ideal.ofBits .f32 0x7F800000#32 = (⊤ : EReal) := by simp [Ideal.ofBits, Ideal.ieee]

/-- The least of four values, as a fold from the greatest value. -/
theorem least_four (g w : Fin 4 → EReal) (h : ∀ c, g c = w c) :
    (Finset.univ : Finset (Fin 4)).fold (FloatOps.minimumf (F := Ideal) (φ := .f32)) (Ideal.ofBits .f32 0x7F800000#32) g
      = min (w 0) (min (w 1) (min (w 2) (w 3))) := by
  refine (fold_four _ _ _).trans ?_
  show min (g 0) (min (g 1) (min (g 2) (min (g 3) (Ideal.ofBits .f32 0x7F800000#32)))) = _
  rw [ofBits_top, min_eq_left (le_top (a := g 3)), h, h, h, h]

set_option maxRecDepth 100000 in
/-- What the reference leaves at an input and a rule: the least of the four memberships its columns name. -/
theorem out_apply (X : FVec Ideal S4096x4 .f32) (C S : FVec Ideal S4x7 .f32) (A : IVec S2401x4 32) (b : Fin 4096)
    (r : Fin 2401) (k : Fin 4 → Fin 7) (hk : ∀ v : Fin 4, (A (ix2 r v)).toNat = 7 * v.val + (k v).val) :
    out X C S A (ix2 b r)
      = min (mval (X (ix2 b 0)) (C (ix2 0 (k 0))) (S (ix2 0 (k 0))))
          (min (mval (X (ix2 b 1)) (C (ix2 1 (k 1))) (S (ix2 1 (k 1))))
            (min (mval (X (ix2 b 2)) (C (ix2 2 (k 2))) (S (ix2 2 (k 2))))
              (mval (X (ix2 b 3)) (C (ix2 3 (k 3))) (S (ix2 3 (k 3)))))) := by
  have hr : S4096x2401x4.Reduces [2] S4096x2401 := by decide
  have hl : ∀ c : Fin 4, hr.lift (ix2 b r) c = ix3 b r c := fun c => funext fun a => Fin.ext
    (match a with | ⟨0, _⟩ => rfl | ⟨1, _⟩ => rfl | ⟨2, _⟩ => rfl)
  have he : ∀ c : Fin 4, (select (broadcastInDim S4096x2401x4 ![1, 2] bcast_S2401x4_S4096x2401x4_1_2 (inRange A))
      (taken (table X C S) A) (broadcastInDim S4096x2401x4 ![] bcast_S_S4096x2401x4 (constant S_ .f32 0x7FC00000#32)))
        (hr.lift (ix2 b r) c) = mval (X (ix2 b c)) (C (ix2 c (k c))) (S (ix2 c (k c))) := by
    intro c
    have hc := hk c
    have h1 := c.isLt
    have h2 := (k c).isLt
    rw [hl, ← table_apply X C S b c (k c) ⟨7 * c.val + (k c).val, by omega⟩ rfl,
      ← taken_apply (table X C S) A b r c _ hc]
    refine pick _ _ _ _ ?_
    rw [broadcastInDim_apply _ _ _ (ix3 b r c) (ix2 r c) (fun a => match a with | ⟨0, _⟩ => rfl | ⟨1, _⟩ => rfl)]
    exact inRange_apply A r c (by omega)
  rw [out, Host.reduce_eq_fold_single FloatOps.minimumf _ _ _ hr]
  exact least_four _ _ he

end Cert.Proof.Ref

end
-- ==== Proof.Rules.lean ====
/-
  What the precondition says, read at an index: no width is zero, and the rules are the product of the four variables'
  choices in order: rule `r` names, for variable `v`, column `7 v` plus the `v`-th base-seven digit of `r`, the most
  significant first.
-/
module

public import proofs.«01_k».proof.Proof.Gen.Pre_product_rules
public import Idealize.ShloMosaic.Lib.ValueIdx
public import Idealize.ShloMosaic.Lib.Pipeline.Value
public import Idealize.ShloMosaic.Lib.StableHlo.Predicate

@[expose] public section

noncomputable section

namespace Cert.Proof.Rules

open Cert.Pre_product_rules Cert.Pre_product_rules.Gen
open Idealize.ShloMosaic Idealize.ShloMosaic.ValueIdx
open Idealize.ShloMosaic.StableHlo.Predicate

/-- The base-seven digits of a rule's number, the most significant first. -/
def digit (r : Fin 2401) : Fin 4 → Fin 7
  | ⟨0, _⟩ => ⟨r.val / 49 / 7, by omega⟩
  | ⟨1, _⟩ => ⟨r.val / 49 % 7, by omega⟩
  | ⟨2, _⟩ => ⟨r.val % 49 / 7, by omega⟩
  | ⟨3, _⟩ => ⟨r.val % 49 % 7, by omega⟩

/-- A word at least zero and below seven, read signed, is below seven. -/
theorem toNat_lt_seven (d : BitVec 32) (h0 : IntOp.cmpi .sge d 0#32 = 1#1) (h7 : IntOp.cmpi .slt d 7#32 = 1#1) :
    d.toNat < 7 := by
  simp only [IntOp.cmpi, ofBool_eq_one_iff, BitVec.sle, BitVec.slt, decide_eq_true_eq] at h0 h7
  rw [show (0#32 : BitVec 32).toInt = 0 from by decide] at h0
  rw [show (7#32 : BitVec 32).toInt = 7 from by decide] at h7
  rw [BitVec.toInt_eq_toNat_cond] at h0 h7
  have := d.isLt
  split at h0 <;> omega

/-- A word that a small one was taken from. -/
theorem toNat_of_sub (a : BitVec 32) (c : Nat) (hc : c < 4) (h : (a - 7#32 * BitVec.ofNat 32 c).toNat < 7) :
    a.toNat = 7 * c + (a - 7#32 * BitVec.ofNat 32 c).toNat := by
  have e : a = (a - 7#32 * BitVec.ofNat 32 c) + 7#32 * BitVec.ofNat 32 c := (BitVec.sub_add_cancel _ _).symm
  have e' := congrArg BitVec.toNat e
  rw [BitVec.toNat_add, BitVec.toNat_mul, BitVec.toNat_ofNat, BitVec.toNat_ofNat] at e'
  omega

/-- A number in base seven, from its digits as words. -/
theorem toNat_digits (d0 d1 d2 d3 : BitVec 32) (n : Nat) (hn : n < 2401) (h0 : d0.toNat < 7) (h1 : d1.toNat < 7)
    (h2 : d2.toNat < 7) (h3 : d3.toNat < 7) (h : d0 * 343#32 + d1 * 49#32 + d2 * 7#32 + d3 = BitVec.ofNat 32 n) :
    d0.toNat * 343 + d1.toNat * 49 + d2.toNat * 7 + d3.toNat = n := by
  have e := congrArg BitVec.toNat h
  simp only [BitVec.toNat_add, BitVec.toNat_mul, BitVec.toNat_ofNat] at e
  omega

variable (X : FVec Ideal S4096x4 .f32) (C S : FVec Ideal S4x7 .f32) (A : IVec S2401x4 32)

/-- The precondition holds: each of its four arrays of tests is all ones. -/
abbrev Holds : Prop :=
  (fn (F := Ideal) X C S A).1 = (fun _ => 1#1) ∧ (fn (F := Ideal) X C S A).2.1 = (fun _ => 1#1)
    ∧ (fn (F := Ideal) X C S A).2.2.1 = (fun _ => 1#1) ∧ (fn (F := Ideal) X C S A).2.2.2 = (fun _ => 1#1)

/-- A column less its variable's first. -/
abbrev off (r : Fin 2401) (v : Fin 4) : BitVec 32 := A (ix2 r v) - 7#32 * BitVec.ofNat 32 v.val

/-- The pattern of zero. -/
theorem ofBits_zero : Ideal.ofBits .f32 0x00000000#32 = (0 : EReal) := by simp [Ideal.ofBits, Ideal.ieee]

/-- No width is zero. -/
theorem width_ne (h : Holds X C S A) (i : S4x7.Idx) : S i ≠ (0 : EReal) := by
  have e : BitVec.ofBool (decide ((S i : EReal) ≠ Ideal.ofBits .f32 0x00000000#32)) = 1#1 := congrFun h.1 i
  rw [ofBool_eq_one_iff, decide_eq_true_eq, ofBits_zero] at e
  exact e

/-- Each column is within its variable's seven. -/
theorem off_lt (h : Holds X C S A) (r : Fin 2401) (v : Fin 4) : (off A r v).toNat < 7 :=
  toNat_lt_seven _ (congrFun h.2.1 (ix2 r v)) (congrFun h.2.2.1 (ix2 r v))

/-- Every column less its variable's first. -/
abbrev offs : IVec S2401x4 32 :=
  subi A (muli (broadcastInDim S2401x4 ![] bcast_S_S2401x4 (constantI S_ 32 7#32)) (iotaInDim S2401x4 32 1))

/-- A column of an array, at a row. -/
theorem col_apply (v : Nat) (hv : v < 4) (hh : S2401x4.Slices ![0, v] S2401x1) (D : IVec S2401x4 32) (r : Fin 2401) :
    extractStridedSlice S2401x1 ![0, v] D hh (ix2 r 0) = D (ix2 r ⟨v, hv⟩) :=
  extractStridedSlice_apply _ _ _ _ _ (fun a => match a with | ⟨0, _⟩ => (Nat.zero_add _).symm | ⟨1, _⟩ => rfl)

/-- The columns spell the rule's number in base seven, as words. -/
theorem off_word (h : Holds X C S A) (r : Fin 2401) :
    off A r 0 * 343#32 + off A r 1 * 49#32 + off A r 2 * 7#32 + off A r 3 = BitVec.ofNat 32 r.val := by
  have e := cmpi_eq_iff.mp (congrFun h.2.2.2 (ix2 r 0))
  have e' : extractStridedSlice S2401x1 ![0, 0] (offs A) slices_S2401x4_S2401x1_0_0 (ix2 r 0) * 343#32
      + extractStridedSlice S2401x1 ![0, 1] (offs A) slices_S2401x4_S2401x1_0_1 (ix2 r 0) * 49#32
      + extractStridedSlice S2401x1 ![0, 2] (offs A) slices_S2401x4_S2401x1_0_2 (ix2 r 0) * 7#32
      + extractStridedSlice S2401x1 ![0, 3] (offs A) slices_S2401x4_S2401x1_0_3 (ix2 r 0) = BitVec.ofNat 32 r.val := e
  rw [col_apply 0 (by decide), col_apply 1 (by decide), col_apply 2 (by decide), col_apply 3 (by decide)] at e'
  exact e'

/-- The columns spell the rule's number in base seven. -/
theorem off_digits (h : Holds X C S A) (r : Fin 2401) :
    (off A r 0).toNat * 343 + (off A r 1).toNat * 49 + (off A r 2).toNat * 7 + (off A r 3).toNat = r.val := by
  exact toNat_digits _ _ _ _ r.val r.isLt (off_lt X C S A h r 0) (off_lt X C S A h r 1) (off_lt X C S A h r 2)
    (off_lt X C S A h r 3) (off_word X C S A h r)

/-- The columns of the rules. -/
theorem cols_eq (h : Holds X C S A) (r : Fin 2401) (v : Fin 4) : (A (ix2 r v)).toNat = 7 * v.val + (digit r v).val := by
  rw [toNat_of_sub (A (ix2 r v)) v.val v.isLt (off_lt X C S A h r v)]
  have e := off_digits X C S A h r
  have l0 := off_lt X C S A h r 0
  have l1 := off_lt X C S A h r 1
  have l2 := off_lt X C S A h r 2
  have l3 := off_lt X C S A h r 3
  refine congrArg (7 * v.val + ·) ?_
  match v with
  | ⟨0, _⟩ => show (off A r 0).toNat = r.val / 49 / 7; omega
  | ⟨1, _⟩ => show (off A r 1).toNat = r.val / 49 % 7; omega
  | ⟨2, _⟩ => show (off A r 2).toNat = r.val % 49 / 7; omega
  | ⟨3, _⟩ => show (off A r 3).toNat = r.val % 49 % 7; omega

end Cert.Proof.Rules

end
-- ==== Proof.Agree.lean ====
/-
  The program and the reference agree at the ideal values, where the precondition holds: a membership that multiplies
  by the width's reciprocal is the one that divides by the width, the width not being zero, and the least of four is
  the least however it is grouped.
-/
module

public import proofs.«01_k».proof.Defs
public import proofs.«01_k».proof.Proof.Frames
public import proofs.«01_k».proof.Proof.KernelValue
public import proofs.«01_k».proof.Proof.RefValue
public import proofs.«01_k».proof.Proof.Rules
public import Idealize.ShloMosaic.Lib.IdealHost

@[expose] public section

noncomputable section

namespace Cert.Proof

open Idealize.ShloMosaic Idealize.ShloMosaic.ValueIdx Idealize.ShloMosaic.TcCoe Idealize.SL.Sem

/-- A division by what is not zero is a product with the reciprocal. -/
theorem div_eq (x s : EReal) (hs : s ≠ 0) : Ideal.div x s = x * Ideal.div 1 s := by
  unfold Ideal.div
  rw [if_neg hs, if_neg hs, one_mul]

/-- The program's membership is the reference's. -/
theorem mem_eq (x c s : EReal) (hs : s ≠ 0) : Tile.mem1 (F := Ideal) x c (Tile.rec1 (F := Ideal) s) = Ref.mval x c s := by
  have e : Tile.mem1 (F := Ideal) x c (Tile.rec1 (F := Ideal) s)
      = Ideal.exp ((Ideal.ofBits .f32 0xBF000000#32 * ((x - c) * Ideal.div (Ideal.ofBits .f32 0x3F800000#32) s))
          * ((x - c) * Ideal.div (Ideal.ofBits .f32 0x3F800000#32) s)) := rfl
  rw [e, Ideal.ofBits_one_f32, ← div_eq _ _ hs, mul_assoc]
  rfl

/-- The program's result is the reference's, index by index. -/
theorem rule_eq (X : FVec Ideal Cert.ReferenceIdeal.S4096x4 .f32) (C S : FVec Ideal Cert.ReferenceIdeal.S4x7 .f32)
    (A : IVec Cert.ReferenceIdeal.S2401x4 32) (h : Rules.Holds X C S A) (b : Fin 4096) (r : Fin 2401) :
    Tile.ruleA (F := Ideal) X C S b r = Ref.out X C S A (ix2 b r) := by
  rw [Ref.out_apply X C S A b r (Rules.digit r) (Rules.cols_eq X C S A h r)]
  have hm : ∀ (v : Fin 4) (k : Fin 7), Tile.wtA (F := Ideal) X C S v k b = Ref.mval (X (ix2 b v)) (C (ix2 v k)) (S (ix2 v k)) :=
    fun v k => mem_eq _ _ _ (Rules.width_ne X C S A h (ix2 v k))
  unfold Tile.ruleA
  rw [hm, hm, hm, hm]
  exact min_assoc (α := EReal) _ _ _

/-- The program and the reference end with equal results. -/
theorem agree : Cert.algebraic_KernelIdeal_ReferenceIdeal_pre_product_rules := by
  intro m g m' g' hpre hargs
  refine ⟨fun c => Tile.V7 m c (Tile.hb Cert.KernelIdeal.main_v6), ?_, ?_⟩
  · refine (θ_run _ _ _).mono (fun r h c => ⟨h.1 c Cert.KernelIdeal.main_v6 (by decide), Tile.end_args m h c⟩)
      (Tile.run_main (F := Ideal) m g)
  · refine (θ_run _ _ _).mono (fun r h c => ⟨(h c).1.trans ?_, (h c).2⟩) (Cert.ReferenceIdeal.Value.run (F := Ideal) m' g')
    obtain ⟨h0, h1, h2, h3⟩ := hargs c
    refine (show _ = Ref.out _ _ _ _ from rfl).trans ?_
    rw [h0, h1, h2, h3]
    funext j
    obtain ⟨b, r, rfl⟩ : ∃ (b : Fin 4096) (r : Fin 2401), j = ix2 b r := ⟨j 0, j 1, eq_ix2 j⟩
    exact (rule_eq _ _ _ _ (hpre c) b r).symm.trans (Tile.V7_v6 m c b r).symm

end Cert.Proof

end
-- ==== Proof.lean ====
/-
  The claims, assembled: the frames of the program, of its idealization and of the reference, that the idealization
  is the program's own text, and that it ends with the reference's result where the precondition holds.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_product_rules
public import proofs.«01_k».proof.Proof.Frames
public import proofs.«01_k».proof.Proof.Agree
public import Idealize.ShloMosaic.Lib.Quiescent

@[expose] public section

noncomputable section

namespace Cert.Proof

open Idealize.ShloMosaic Idealize.SL.Sem

/-- The reference's frame: its run, and a program of no semaphores ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Everything claimed. -/
theorem claim : Cert.Claim := ⟨Cert.Kernel.Gen.facts, Cert.KernelIdeal.Gen.facts, Cert.ReferenceIdeal.Gen.facts,
  Cert.Pre_product_rules.Gen.facts, Tile.frame_kernel, Tile.frame_kernelIdeal,
  fun m ρ _ => Tile.frame_kernelIdeal m ρ trivial, frame_reference, fun m ρ _ => frame_reference m ρ trivial, trivial, agree⟩

end Cert.Proof

end
